-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S16x2x256x64 : Shape := ⟨4, ![16, 2, 256, 64]⟩
abbrev S4x4x2x256x64 : Shape := ⟨5, ![4, 4, 2, 256, 64]⟩
abbrev S4x2x64x512 : Shape := ⟨4, ![4, 2, 64, 512]⟩
abbrev S4 : Shape := ⟨1, ![4]⟩
abbrev S_ : Shape := ⟨0, ![]⟩
abbrev S4x2x256x64 : Shape := ⟨4, ![4, 2, 256, 64]⟩
abbrev S1x4x2x256x64 : Shape := ⟨5, ![1, 4, 2, 256, 64]⟩
abbrev S1 : Shape := ⟨1, ![1]⟩
abbrev S1x256x512 : Shape := ⟨3, ![1, 256, 512]⟩
abbrev S256x256 : Shape := ⟨2, ![256, 256]⟩
abbrev S256x1024 : Shape := ⟨2, ![256, 1024]⟩
abbrev S256x64 : Shape := ⟨2, ![256, 64]⟩
abbrev S1x1x1x256x64 : Shape := ⟨5, ![1, 1, 1, 256, 64]⟩
abbrev S1024x64 : Shape := ⟨2, ![1024, 64]⟩
abbrev S256 : Shape := ⟨1, ![256]⟩
abbrev S256x1 : Shape := ⟨2, ![256, 1]⟩
abbrev S64x512 : Shape := ⟨2, ![64, 512]⟩
abbrev S1x1x64x512 : Shape := ⟨4, ![1, 1, 64, 512]⟩
abbrev S1x2x64x512 : Shape := ⟨4, ![1, 2, 64, 512]⟩
abbrev S2x64x512 : Shape := ⟨3, ![2, 64, 512]⟩
abbrev S2x4x64x512 : Shape := ⟨4, ![2, 4, 64, 512]⟩

abbrev nBuf : Space → Nat
  | .hbm => 6
  | .vmem => 13
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x16x64, .f32⟩
  | .hbm, ⟨3, _⟩ => ⟨S2x256x16x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x16x64, .f32⟩
  | .local _ .vmem, ⟨3, _⟩ => ⟨S2x256x16x64, .f32⟩
  | .local _ .vmem, ⟨4, _⟩ => ⟨S256x512, .f32⟩
  | .local _ .vmem, ⟨5, _⟩ => ⟨S2x256x512, .f32⟩
  | .local _ .vmem, ⟨6, _⟩ => ⟨S16x2x256x64, .bf16⟩
  | .local _ .vmem, ⟨7, _⟩ => ⟨S16x2x256x64, .bf16⟩
  | .local _ .vmem, ⟨8, _⟩ => ⟨S4x4x2x256x64, .bf16⟩
  | .local _ .vmem, ⟨9, _⟩ => ⟨S4x4x2x256x64, .bf16⟩
  | .local _ .vmem, ⟨10, _⟩ => ⟨S4x2x64x512, .bf16⟩
  | .local _ .vmem, ⟨11, _⟩ => ⟨S4x2x64x512, .bf16⟩
  | .local _ .vmem, ⟨12, _⟩ => ⟨S4x2x64x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_28 : BitVec 32 := 4#32
  let v30 : BitVec 32 := Scalar.muli v2 c4_i32_28
  let v31 : Index := Scalar.indexCast v30
  let c0_29 : Index := 0#32
  let c0_30 : Index := 0#32
  let c0_31 : Index := 0#32
  ![v31.toNat, 0, 0, 0]
def k0_off2 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v34 : Index := Scalar.indexCast v2
  let c0_32 : Index := 0#32
  let c0_33 : Index := 0#32
  let c0_34 : Index := 0#32
  let c0_35 : Index := 0#32
  ![v34.toNat, 0, 0, 0, 0]
def k0_off3 (d0 : Dev nD) (c1_i32_44 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : BitVec 32 := Scalar.addi v2 c1_i32_44
  let c4_i32_45 : BitVec 32 := 4#32
  let v47 : BitVec 32 := Scalar.remsi v46 c4_i32_45
  ![v47.toNat]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_49 : BitVec 32 := 0#32
  let c0_i32_50 : BitVec 32 := 0#32
  let c0_i32_51 : BitVec 32 := 0#32
  let c0_i32_52 : BitVec 32 := 0#32
  ![v2.toNat, 0, 0, 0, 0]
def k0_off6 (d0 : Dev nD) (c1_i32_44 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : BitVec 32 := Scalar.addi v2 c1_i32_44
  let c4_i32_45 : BitVec 32 := 4#32
  let v47 : BitVec 32 := Scalar.remsi v46 c4_i32_45
  let c4_i32_46 : BitVec 32 := 4#32
  let v48 : BitVec 32 := Scalar.muli v47 c4_i32_46
  let c0_i32_53 : BitVec 32 := 0#32
  let c0_i32_54 : BitVec 32 := 0#32
  let c0_i32_55 : BitVec 32 := 0#32
  ![v48.toNat, 0, 0, 0]
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_44 : BitVec 32 := 1#32
  let v46 : BitVec 32 := Scalar.addi v2 c1_i32_44
  let c4_i32_45 : BitVec 32 := 4#32
  let v47 : BitVec 32 := Scalar.remsi v46 c4_i32_45
  let c1_i32_47 : BitVec 32 := 1#32
  let v49 : BitVec 32 := Scalar.muli v47 c1_i32_47
  let v50 : BitVec 32 := Scalar.addi c0_i32_48 v49
  v50.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_44 : BitVec 32 := 1#32
  let v46 : BitVec 32 := Scalar.addi v2 c1_i32_44
  let c4_i32_45 : BitVec 32 := 4#32
  let v47 : BitVec 32 := Scalar.remsi v46 c4_i32_45
  let c1_i32_57 : BitVec 32 := 1#32
  let v59 : BitVec 32 := Scalar.muli v47 c1_i32_57
  let v60 : BitVec 32 := Scalar.addi c0_i32_58 v59
  v60.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_66 : BitVec 32 := 2#32
  let v68 : BitVec 32 := Scalar.addi v2 c2_i32_66
  let c4_i32_67 : BitVec 32 := 4#32
  let v69 : BitVec 32 := Scalar.remsi v68 c4_i32_67
  let c1_i32_69 : BitVec 32 := 1#32
  let v71 : BitVec 32 := Scalar.muli v69 c1_i32_69
  let v72 : BitVec 32 := Scalar.addi c0_i32_70 v71
  v72.toNat
def k0_dev7 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_66 : BitVec 32 := 2#32
  let v68 : BitVec 32 := Scalar.addi v2 c2_i32_66
  let c4_i32_67 : BitVec 32 := 4#32
  let v69 : BitVec 32 := Scalar.remsi v68 c4_i32_67
  let c1_i32_79 : BitVec 32 := 1#32
  let v81 : BitVec 32 := Scalar.muli v69 c1_i32_79
  let v82 : BitVec 32 := Scalar.addi c0_i32_80 v81
  v82.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_88 : BitVec 32 := 3#32
  let v90 : BitVec 32 := Scalar.addi v2 c3_i32_88
  let c4_i32_89 : BitVec 32 := 4#32
  let v91 : BitVec 32 := Scalar.remsi v90 c4_i32_89
  let c1_i32_91 : BitVec 32 := 1#32
  let v93 : BitVec 32 := Scalar.muli v91 c1_i32_91
  let v94 : BitVec 32 := Scalar.addi c0_i32_92 v93
  v94.toNat
def k0_dev9 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_88 : BitVec 32 := 3#32
  let v90 : BitVec 32 := Scalar.addi v2 c3_i32_88
  let c4_i32_89 : BitVec 32 := 4#32
  let v91 : BitVec 32 := Scalar.remsi v90 c4_i32_89
  let c1_i32_101 : BitVec 32 := 1#32
  let v103 : BitVec 32 := Scalar.muli v91 c1_i32_101
  let v104 : BitVec 32 := Scalar.addi c0_i32_102 v103
  v104.toNat
def k0_off7 (d0 : Dev nD) (c1_i32_143 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v205 : BitVec 32 := Scalar.addi v2 c1_i32_143
  let c4_i32_144 : BitVec 32 := 4#32
  let v206 : BitVec 32 := Scalar.remsi v205 c4_i32_144
  let c0_i32_147 : BitVec 32 := 0#32
  let c0_i32_148 : BitVec 32 := 0#32
  let c0_i32_149 : BitVec 32 := 0#32
  let c0_i32_150 : BitVec 32 := 0#32
  ![v206.toNat, 0, 0, 0, 0]
def k0_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v579 : Index := Scalar.indexCast v2
  let c0_611 : Index := 0#32
  let c0_612 : Index := 0#32
  let c0_613 : Index := 0#32
  ![v579.toNat, 0, 0, 0]
def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_621 : BitVec 32 := 0#32
  let c0_i32_622 : BitVec 32 := 0#32
  let c0_i32_623 : BitVec 32 := 0#32
  ![v2.toNat, 0, 0, 0]
def k0_off10 (d0 : Dev nD) (c1_i32_617 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v585 : BitVec 32 := Scalar.addi v2 c1_i32_617
  let c4_i32_618 : BitVec 32 := 4#32
  let v586 : BitVec 32 := Scalar.remsi v585 c4_i32_618
  let c0_i32_624 : BitVec 32 := 0#32
  let c0_i32_625 : BitVec 32 := 0#32
  let c0_i32_626 : BitVec 32 := 0#32
  ![v586.toNat, 0, 0, 0]
def k0_dev10 (d0 : Dev nD) : Nat :=
  let c0_i32_620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_617 : BitVec 32 := 1#32
  let v585 : BitVec 32 := Scalar.addi v2 c1_i32_617
  let c4_i32_618 : BitVec 32 := 4#32
  let v586 : BitVec 32 := Scalar.remsi v585 c4_i32_618
  let c1_i32_619 : BitVec 32 := 1#32
  let v587 : BitVec 32 := Scalar.muli v586 c1_i32_619
  let v588 : BitVec 32 := Scalar.addi c0_i32_620 v587
  v588.toNat
def k0_dev11 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_627 : BitVec 32 := 2#32
  let v597 : BitVec 32 := Scalar.addi v2 c2_i32_627
  let c4_i32_628 : BitVec 32 := 4#32
  let v598 : BitVec 32 := Scalar.remsi v597 c4_i32_628
  let c1_i32_629 : BitVec 32 := 1#32
  let v599 : BitVec 32 := Scalar.muli v598 c1_i32_629
  let v600 : BitVec 32 := Scalar.addi c0_i32_630 v599
  v600.toNat
def k0_dev12 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_637 : BitVec 32 := 3#32
  let v609 : BitVec 32 := Scalar.addi v2 c3_i32_637
  let c4_i32_638 : BitVec 32 := 4#32
  let v610 : BitVec 32 := Scalar.remsi v609 c4_i32_638
  let c1_i32_639 : BitVec 32 := 1#32
  let v611 : BitVec 32 := Scalar.muli v610 c1_i32_639
  let v612 : BitVec 32 := Scalar.addi c0_i32_640 v611
  v612.toNat
def k0_dev13 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_685 : BitVec 32 := 1#32
  let v660 : BitVec 32 := Scalar.addi v2 c1_i32_685
  let c4_i32_686 : BitVec 32 := 4#32
  let v661 : BitVec 32 := Scalar.remsi v660 c4_i32_686
  let c1_i32_687 : BitVec 32 := 1#32
  let v662 : BitVec 32 := Scalar.muli v661 c1_i32_687
  let v663 : BitVec 32 := Scalar.addi c0_i32_688 v662
  v663.toNat
def k0_dev14 (d0 : Dev nD) : Nat :=
  let c0_i32_698 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_695 : BitVec 32 := 2#32
  let v672 : BitVec 32 := Scalar.addi v2 c2_i32_695
  let c4_i32_696 : BitVec 32 := 4#32
  let v673 : BitVec 32 := Scalar.remsi v672 c4_i32_696
  let c1_i32_697 : BitVec 32 := 1#32
  let v674 : BitVec 32 := Scalar.muli v673 c1_i32_697
  let v675 : BitVec 32 := Scalar.addi c0_i32_698 v674
  v675.toNat
def k0_dev15 (d0 : Dev nD) : Nat :=
  let c0_i32_708 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_705 : BitVec 32 := 3#32
  let v684 : BitVec 32 := Scalar.addi v2 c3_i32_705
  let c4_i32_706 : BitVec 32 := 4#32
  let v685 : BitVec 32 := Scalar.remsi v684 c4_i32_706
  let c1_i32_707 : BitVec 32 := 1#32
  let v686 : BitVec 32 := Scalar.muli v685 c1_i32_707
  let v687 : BitVec 32 := Scalar.addi c0_i32_708 v686
  v687.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x1024x16x64 : Shape := ⟨4, ![2, 1024, 16, 64]⟩
abbrev S1024x512 : Shape := ⟨2, ![1024, 512]⟩
abbrev S2x256x1024 : Shape := ⟨3, ![2, 256, 1024]⟩
abbrev S2x256x16x64 : Shape := ⟨4, ![2, 256, 16, 64]⟩
abbrev S256 : Shape := ⟨1, ![256]⟩
abbrev S_ : Shape := ⟨0, ![]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S2x16x256x1024 : Shape := ⟨4, ![2, 16, 256, 1024]⟩
abbrev S1x1x256x1024 : Shape := ⟨4, ![1, 1, 256, 1024]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 137
  | .vmem => 0
  | .smem => 0
  | _ => 0

abbrev hbmTy0_0 (i : Nat) : BufTy := match i % 128 with
  | 0 => ⟨S2x256x512, .f32⟩
  | 1 => ⟨S512x1024, .f32⟩
  | 2 => ⟨S2x1024x16x64, .f32⟩
  | 3 => ⟨S2x1024x16x64, .f32⟩
  | 4 => ⟨S1024x512, .f32⟩
  | 5 => ⟨S2x256x1024, .f32⟩
  | 6 => ⟨S2x256x16x64, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S256x1024, .i32⟩
  | 48 => ⟨S256x1024, .i32⟩
  | 49 => ⟨S256x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x1024, .i32⟩
  | 95 => ⟨S256x1024, .i32⟩
  | 96 => ⟨S256x1024, .i1⟩
  | 97 => ⟨S256x1024, .i1⟩
  | 98 => ⟨S2x16x256x1024, .f32⟩
  | 99 => ⟨S_, .f32⟩
  | 100 => ⟨S2x16x256x1024, .f32⟩
  | 101 => ⟨S2x16x256x1024, .f32⟩
  | 102 => ⟨S1x1x256x1024, .i1⟩
  | 103 => ⟨S_, .f32⟩
  | 104 => ⟨S_, .f32⟩
  | 105 => ⟨S2x16x256x1024, .i1⟩
  | 106 => ⟨S2x16x256x1024, .f32⟩
  | 107 => ⟨S2x16x256x1024, .f32⟩
  | 108 => ⟨S_, .f32⟩
  | 109 => ⟨S2x16x256, .f32⟩
  | 110 => ⟨S2x16x256x1, .f32⟩
  | 111 => ⟨S2x16x256x1024, .f32⟩
  | 112 => ⟨S2x16x256x1024, .f32⟩
  | 113 => ⟨S2x16x256x1024, .f32⟩
  | 114 => ⟨S_, .i1⟩
  | 115 => ⟨S256, .i1⟩
  | 116 => ⟨S1x1x256x1, .i1⟩
  | 117 => ⟨S_, .f32⟩
  | 118 => ⟨S2x16x256, .f32⟩
  | 119 => ⟨S2x16x256x1, .f32⟩
  | 120 => ⟨S_, .f32⟩
  | 121 => ⟨S_, .f32⟩
  | 122 => ⟨S2x16x256x1, .i1⟩
  | 123 => ⟨S2x16x256x1, .f32⟩
  | 124 => ⟨S2x16x256x1, .f32⟩
  | 125 => ⟨S2x16x256x1024, .f32⟩
  | 126 => ⟨S2x16x256x1024, .f32⟩
  | 127 => ⟨S1x1x256x1, .i1⟩
  | _ => ⟨S2x256x512, .f32⟩

abbrev hbmTy0_1 (i : Nat) : BufTy := match i % 128 with
  | 0 => ⟨S_, .f32⟩
  | 1 => ⟨S_, .f32⟩
  | 2 => ⟨S2x16x256x1024, .i1⟩
  | 3 => ⟨S2x16x256x1024, .f32⟩
  | 4 => ⟨S2x16x256x1024, .f32⟩
  | 5 => ⟨S2x16x64x256, .f32⟩
  | 6 => ⟨S2x256x16x64, .f32⟩
  | 7 => ⟨S2x256x1024, .f32⟩
  | 8 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.KernelIdeal.Cells.lean ====
/-
The memory of the kernel: its buffers, its semaphores, the devices a device talks to.

Every device `c` has one barrier semaphore and eight arrays of four DMA semaphores: a send and a receive array for each
of the four families of copies (K blocks, V blocks, partial results to be added up, sums to be gathered). Slot `j` of an
array is for the copy between `c` and device `j`; slot `c` itself is never used.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Hand

open Cert.KernelIdeal Cert.KernelIdeal.Gen
open Idealize.ShloMosaic
open Idealize.ShloMosaic.TcCoe

/-! ## The other devices -/

set_option backward.proofsInPublic true in
/-- The device `r + 1` places after `c` around the mesh: the partner of `c`'s copies number `r`. -/
def pr (c : Dev nD) (r : Fin 3) : Dev nD := ⟨(c.val + r.val + 1) % 4, Nat.mod_lt _ (by decide)⟩

/-- The copy number under which a partner sees `c`. -/
abbrev rv (r : Fin 3) : Fin 3 := 2 - r

theorem pr_rv (c : Dev nD) (r : Fin 3) : pr (pr c r) (rv r) = c := by revert c r; decide
theorem pr_ne (c : Dev nD) (r : Fin 3) : pr c r ≠ c := by revert c r; decide
theorem pr_inj (c : Dev nD) (r s : Fin 3) (h : pr c r = pr c s) : r = s := by revert c r s; decide

/-- Around the mesh by `r + 1` places, as a bijection of the devices. -/
def turn (r : Fin 3) : Dev nD ≃ Dev nD :=
  ⟨fun c => pr c r, fun c => pr c (rv r), fun c => pr_rv c r, fun c => by revert c r; decide⟩

/-! ## The buffers -/

/-- K and V by head, the four blocks of heads one after the other: what is sent from. -/
abbrev ksM : Memref sig .tc .vmem S16x2x256x64 .bf16 := Memref.whole cc0_scratch0
abbrev vsM : Memref sig .tc .vmem S16x2x256x64 .bf16 := Memref.whole cc0_scratch1
/-- K and V of this device's heads, a slot for every device's rows: where the blocks land. -/
abbrev krM : Memref sig .tc .vmem S4x4x2x256x64 .bf16 := Memref.whole cc0_scratch2
abbrev vrM : Memref sig .tc .vmem S4x4x2x256x64 .bf16 := Memref.whole cc0_scratch3
/-- This device's partial result by row block; the partial results of its own row block; the summed row blocks. -/
abbrev pcM : Memref sig .tc .vmem S4x2x64x512 .bf16 := Memref.whole cc0_scratch4
abbrev rsM : Memref sig .tc .vmem S4x2x64x512 .bf16 := Memref.whole cc0_scratch5
abbrev agM : Memref sig .tc .vmem S4x2x64x512 .bf16 := Memref.whole cc0_scratch6

/-- Four heads' rows of a send buffer from the offsets `o`. -/
abbrev blkV (M : Memref sig .tc .vmem S16x2x256x64 .bf16) (o : Fin 4 → ℕ) (h : ∀ a, o a + S4x2x256x64.size a ≤ S16x2x256x64.size a) :
    Memref sig .tc .vmem S4x2x256x64 .bf16 :=
  M.slice (Rect.unit (s := S16x2x256x64) o S4x2x256x64.size h) (fun _ => rfl)
/-- A slot of a K or V landing buffer from the offsets `o`. -/
abbrev slotV (M : Memref sig .tc .vmem S4x4x2x256x64 .bf16) (o : Fin 5 → ℕ) (h : ∀ a, o a + S1x4x2x256x64.size a ≤ S4x4x2x256x64.size a) :
    Memref sig .tc .vmem S4x2x256x64 .bf16 :=
  (M.slice (Rect.unit (s := S4x4x2x256x64) o S1x4x2x256x64.size h) (fun _ => rfl)).squeeze S4x2x256x64 squeezes_S1x4x2x256x64_S4x2x256x64
/-- A slot of one of the three result buffers from the offsets `o`. -/
abbrev slotR (M : Memref sig .tc .vmem S4x2x64x512 .bf16) (o : Fin 4 → ℕ) (h : ∀ a, o a + S1x2x64x512.size a ≤ S4x2x64x512.size a) :
    Memref sig .tc .vmem S2x64x512 .bf16 :=
  (M.slice (Rect.unit (s := S4x2x64x512) o S1x2x64x512.size h) (fun _ => rfl)).squeeze S2x64x512 squeezes_S1x2x64x512_S2x64x512

theorem oB_inb (j : Fin 4) : ∀ a, (![4 * j.val, 0, 0, 0] : Fin 4 → ℕ) a + S4x2x256x64.size a ≤ S16x2x256x64.size a := by
  revert j; decide
theorem oV_inb (j : Fin 4) : ∀ a, (![j.val, 0, 0, 0, 0] : Fin 5 → ℕ) a + S1x4x2x256x64.size a ≤ S4x4x2x256x64.size a := by
  revert j; decide
theorem oR_inb (j : Fin 4) : ∀ a, (![j.val, 0, 0, 0] : Fin 4 → ℕ) a + S1x2x64x512.size a ≤ S4x2x64x512.size a := by
  revert j; decide
theorem oS_inb (j : Fin 4) : ∀ a, (![j.val] : Fin 1 → ℕ) a + S1.size a ≤ S4.size a := by
  revert j; decide

/-- The heads of device `j` in a send buffer. -/
abbrev blkVj (M : Memref sig .tc .vmem S16x2x256x64 .bf16) (j : Fin 4) := blkV M ![4 * j.val, 0, 0, 0] (oB_inb j)
/-- Device `j`'s slot of a landing buffer. -/
abbrev slotVj (M : Memref sig .tc .vmem S4x4x2x256x64 .bf16) (j : Fin 4) := slotV M ![j.val, 0, 0, 0, 0] (oV_inb j)
abbrev slotRj (M : Memref sig .tc .vmem S4x2x64x512 .bf16) (j : Fin 4) := slotR M ![j.val, 0, 0, 0] (oR_inb j)

/-! ## The semaphores -/

/-- The eight arrays: for each family the send array (even) and the receive array (odd). -/
abbrev semA : Fin 8 → DmaSems sig S4
  | 0 => cc0_scratch7 | 1 => cc0_scratch8 | 2 => cc0_scratch9 | 3 => cc0_scratch10
  | 4 => cc0_scratch11 | 5 => cc0_scratch12 | 6 => cc0_scratch13 | 7 => cc0_scratch14

/-- The semaphore of an array at the offset `o`. -/
abbrev semAt (A : DmaSems sig S4) (o : Fin 1 → ℕ) (h : ∀ a, o a + S1.size a ≤ S4.size a) : DmaSem sig :=
  ((A.slice (Rect.unit (s := S4) o S1.size h)).squeeze S_ squeezes_S1_S_).sem

abbrev semj (a : Fin 8) (j : Fin 4) : DmaSem sig := semAt (semA a) ![j.val] (oS_inb j)

/-- The runtime's barrier semaphore. -/
abbrev barS : Sem sig := (SemArray.scalar (sig.barrier 0 rfl) : Sems sig S_).sem

/-- A kernel's own semaphores: array and slot. -/
abbrev OIx : Type := Fin 8 × Fin 4
/-- All of them: the barrier semaphore is `none`. -/
abbrev CIx : Type := Option OIx

abbrev osem (x : OIx) : SemLoc sig := .dma (semj x.1 x.2)
abbrev csem : CIx → SemLoc sig
  | none => .reg barS
  | some x => osem x

theorem semj_val (a : Fin 8) (j : Fin 4) : (semj a j).val = 6 + 4 * a.val + j.val := by revert a j; decide

theorem osem_injective : Function.Injective osem := by
  rintro ⟨a, j⟩ ⟨b, k⟩ h
  have h1 : semj a j = semj b k := by simpa using h
  have h2 := congrArg Fin.val h1
  rw [semj_val, semj_val] at h2
  have : a = b := Fin.ext (by omega)
  subst this
  have : j = k := Fin.ext (by omega)
  subst this; rfl

theorem csem_injective : Function.Injective csem := by
  rintro (_ | x) (_ | y) h
  · rfl
  · cases h
  · cases h
  · exact congrArg some (osem_injective h)

/-- A semaphore of a device, as a cell of the machine. -/
abbrev kcell (ck : Dev nD × CIx) : GSem nD τ sig := ((ck.1 : Thread nD τ), csem ck.2)

theorem kcell_injective : Function.Injective kcell := by
  rintro ⟨c, k⟩ ⟨c', k'⟩ h
  have h1 : c = c' := by have := congrArg (fun g : GSem nD τ sig => g.1.1) h; exact this
  have h2 : csem k = csem k' := congrArg Prod.snd h
  rw [h1, csem_injective h2]

/-- Which semaphore of the kernel a semaphore is, if any. -/
def dec : SemLoc sig → Option CIx := Function.partialInv csem

theorem dec_csem (k : CIx) : dec (csem k) = some k := Function.partialInv_left csem_injective k

theorem dec_none (s : SemLoc sig) (h : ∀ k, csem k ≠ s) : dec s = none := by
  unfold dec Function.partialInv
  rw [dif_neg]; rintro ⟨k, hk⟩; exact h k hk

/-- What a copy of each family adds to the semaphores it completes on; a barrier signal adds one. -/
abbrev nV : ℕ := (slotVj krM 0).view.dmaCredit
abbrev nR : ℕ := (slotRj rsM 0).view.dmaCredit
def amtA (a : Fin 8) : ℕ := if a.val < 4 then nV else nR
def amt : CIx → ℕ
  | none => 1
  | some x => amtA x.1

theorem amtA_pos (a : Fin 8) : 0 < amtA a := by
  unfold amtA; split
  · exact View.dmaCredit_pos _ (by decide)
  · exact View.dmaCredit_pos _ (by decide)

theorem amt_pos (k : CIx) : 0 < amt k := by
  cases k with
  | none => exact Nat.one_pos
  | some x => exact amtA_pos x.1

theorem cred_blkV_K (o h) : (blkV ksM o h).view.dmaCredit = nV := rfl
theorem cred_blkV_V (o h) : (blkV vsM o h).view.dmaCredit = nV := rfl
theorem cred_slotV_K (o h) : (slotV krM o h).view.dmaCredit = nV := rfl
theorem cred_slotV_V (o h) : (slotV vrM o h).view.dmaCredit = nV := rfl
theorem cred_slotR_P (o h) : (slotR pcM o h).view.dmaCredit = nR := rfl
theorem cred_slotR_R (o h) : (slotR rsM o h).view.dmaCredit = nR := rfl
theorem cred_slotR_A (o h) : (slotR agM o h).view.dmaCredit = nR := rfl

end Cert.KernelIdeal.Hand

end
-- ==== Proof.KernelIdeal.Values.lean ====
/-
What the kernel's buffers hold, device by device, as functions of the five staged inputs.

The staged inputs of device `c` are its copy of `x`, its columns of `Wq`, its rows of K and V (in the order x, Wq, K, V),
and its rows of `Wo`. A head's attention is computed from the landing buffers `KR`, `VR` (a slot for each device's rows).
The names below are those of the printed program's values, one function each, in the program's order.
-/
module

public import proofs.«01_k».proof.Proof.KernelIdeal.Cells
public import Idealize.ShloMosaic.Lib.ValueIdxCore

@[expose] public section

noncomputable section

namespace Cert.KernelIdeal.Hand

open Cert.KernelIdeal Cert.KernelIdeal.Gen
open Idealize.ShloMosaic
open Idealize.ShloMosaic.TcCoe
open Idealize.ShloMosaic.ValueIdx (ix4 ix5)

variable {F : FTy → Type} [FloatOps F]

/-- Contents of the four kinds of scratch buffer. -/
abbrev TS (F : FTy → Type) : Type := Vec F S16x2x256x64 .bf16
abbrev TV (F : FTy → Type) : Type := Vec F S4x4x2x256x64 .bf16
abbrev TR (F : FTy → Type) : Type := Vec F S4x2x64x512 .bf16

/-- One device's rows, head and batch, read from a landing buffer. -/
abbrev kAt (B : TV F) (s h b : ℕ) (hb : ∀ a, (![s, h, b, 0, 0] : Fin 5 → ℕ) a + S1x1x1x256x64.size a ≤ S4x4x2x256x64.size a) :
    Vec F S1x1x1x256x64 .bf16 :=
  (Memref.whole cc0_scratch2 : Memref sig .tc .vmem S4x4x2x256x64 .bf16).view.readAt (Elt F)
    (Rect.unit (s := S4x4x2x256x64) ![s, h, b, 0, 0] S1x1x1x256x64.size hb).toLoadRect B

/-- The causal mask and its parts. -/
def mask162 : IVec S256x1024 32 := k0_pay11 k0_pay10 4#32 (Scalar.cmpi .eq 4#32 0#32) 1#32
def mask : IVec S256x1024 1 := k0_pay14 mask162 (Scalar.select (Scalar.cmpi .eq 4#32 0#32) 1#32 4#32) k0_pay12 k0_pay13

section Heads
/- `q0`, `q1`: the queries of the two batch elements, all four heads of this device. -/
variable (q0 q1 : FVec F S256x256 .bf16) (KR VR : TV F) (wo : Vec F S256x512 .f32)

def o264 : FVec F S1024x64 .bf16 := k0_pay17 (kAt KR 0 0 0 (by decide)) (kAt KR 1 0 0 (by decide)) (kAt KR 2 0 0 (by decide)) (kAt KR 3 0 0 (by decide))
def o266 : FVec F S256x64 .bf16 := k0_pay18 (kAt VR 0 0 0 (by decide))
def o289 : FVec F S256x64 .f32 :=
  k0_pay19 mask (k0_pay16 q0) (o264 KR) (o266 VR) (kAt VR 1 0 0 (by decide)) (kAt VR 2 0 0 (by decide)) (kAt VR 3 0 0 (by decide))
def o292 : FVec F S256x64 .bf16 := k0_pay21 (kAt KR 0 1 0 (by decide))
def o294 : FVec F S256x64 .bf16 := k0_pay22 (kAt KR 1 1 0 (by decide))
def o296 : FVec F S256x64 .bf16 := k0_pay23 (kAt KR 2 1 0 (by decide))
def o324 : FVec F S256x64 .f32 :=
  k0_pay24 mask (k0_pay20 q0) (o292 KR) (o294 KR) (o296 KR) (kAt KR 3 1 0 (by decide))
    (kAt VR 0 1 0 (by decide)) (kAt VR 1 1 0 (by decide)) (kAt VR 2 1 0 (by decide)) (kAt VR 3 1 0 (by decide))
def o343 : FVec F S1024x64 .bf16 :=
  k0_pay26 (kAt VR 0 2 0 (by decide)) (kAt VR 1 2 0 (by decide)) (kAt VR 2 2 0 (by decide)) (kAt VR 3 2 0 (by decide))
def o344 := k0_pay27 (k0_pay25 q0) (kAt KR 0 2 0 (by decide)) (kAt KR 1 2 0 (by decide)) (kAt KR 2 2 0 (by decide)) (kAt KR 3 2 0 (by decide))
def o359 : FVec F S256x64 .f32 := k0_pay28 mask (o343 VR) (o344 q0 KR)
def o369 : FVec F S1024x64 .bf16 :=
  k0_pay30 (kAt KR 0 3 0 (by decide)) (kAt KR 1 3 0 (by decide)) (kAt KR 2 3 0 (by decide)) (kAt KR 3 3 0 (by decide))
def o371 : FVec F S256x64 .bf16 := k0_pay31 (kAt VR 0 3 0 (by decide))
/-- Batch element 0's share of the result: all rows; row block 0 as it is stored; row block 1. -/
def o396 : FVec F S256x512 .f32 :=
  k0_pay32 mask (k0_pay15 wo) (o289 q0 KR VR) (o324 q0 KR VR) (o359 q0 KR VR) (k0_pay29 q0) (o369 KR) (o371 VR)
    (kAt VR 1 3 0 (by decide)) (kAt VR 2 3 0 (by decide)) (kAt VR 3 3 0 (by decide))
def o401 : FVec F S1x1x64x512 .bf16 :=
  k0_pay33 mask (k0_pay15 wo) (o289 q0 KR VR) (o324 q0 KR VR) (o359 q0 KR VR) (k0_pay29 q0) (o369 KR) (o371 VR)
    (kAt VR 1 3 0 (by decide)) (kAt VR 2 3 0 (by decide)) (kAt VR 3 3 0 (by decide))
def o403 : FVec F S64x512 .bf16 :=
  k0_pay34 mask (k0_pay15 wo) (o289 q0 KR VR) (o324 q0 KR VR) (o359 q0 KR VR) (k0_pay29 q0) (o369 KR) (o371 VR)
    (kAt VR 1 3 0 (by decide)) (kAt VR 2 3 0 (by decide)) (kAt VR 3 3 0 (by decide))
def o426 : FVec F S1024x64 .bf16 :=
  k0_pay39 (kAt KR 0 0 1 (by decide)) (kAt KR 1 0 1 (by decide)) (kAt KR 2 0 1 (by decide)) (kAt KR 3 0 1 (by decide))
def o451 : FVec F S256x64 .f32 :=
  k0_pay40 mask (k0_pay38 q1) (o426 KR) (kAt VR 0 0 1 (by decide)) (kAt VR 1 0 1 (by decide)) (kAt VR 2 0 1 (by decide)) (kAt VR 3 0 1 (by decide))
def o454 := k0_pay42 (kAt KR 0 1 1 (by decide))
def o456 := k0_pay43 (kAt KR 1 1 1 (by decide))
def o470 := k0_pay44 (kAt VR 0 1 1 (by decide)) (kAt VR 1 1 1 (by decide)) (kAt VR 2 1 1 (by decide)) (kAt VR 3 1 1 (by decide))
def o480 := k0_pay45 mask (k0_pay41 q1) (o454 KR) (o456 KR) (kAt KR 2 1 1 (by decide)) (kAt KR 3 1 1 (by decide))
def o481 := k0_pay46 mask (k0_pay41 q1) (o454 KR) (o456 KR) (kAt KR 2 1 1 (by decide)) (kAt KR 3 1 1 (by decide))
def o486 : FVec F S256x64 .f32 := k0_pay47 (o470 VR) (o480 q1 KR) (o481 q1 KR)
def o496 := k0_pay49 (kAt KR 0 2 1 (by decide)) (kAt KR 1 2 1 (by decide)) (kAt KR 2 2 1 (by decide)) (kAt KR 3 2 1 (by decide))
def o498 := k0_pay50 (kAt VR 0 2 1 (by decide))
def o500 := k0_pay51 (kAt VR 1 2 1 (by decide))
def o502 := k0_pay52 (kAt VR 2 2 1 (by decide))
def o521 : FVec F S256x64 .f32 := k0_pay53 mask (k0_pay48 q1) (o496 KR) (o498 VR) (o500 VR) (o502 VR) (kAt VR 3 2 1 (by decide))
def o531 := k0_pay55 (kAt KR 0 3 1 (by decide)) (kAt KR 1 3 1 (by decide)) (kAt KR 2 3 1 (by decide)) (kAt KR 3 3 1 (by decide))
/-- Batch element 1's share of the result: all rows; row block 0 as it is stored. -/
def o558 : FVec F S256x512 .f32 :=
  k0_pay56 mask (k0_pay15 wo) (o451 q1 KR VR) (o486 q1 KR VR) (o521 q1 KR VR) (k0_pay54 q1) (o531 KR)
    (kAt VR 0 3 1 (by decide)) (kAt VR 1 3 1 (by decide)) (kAt VR 2 3 1 (by decide)) (kAt VR 3 3 1 (by decide))
def o563 : FVec F S1x1x64x512 .bf16 :=
  k0_pay57 mask (k0_pay15 wo) (o451 q1 KR VR) (o486 q1 KR VR) (o521 q1 KR VR) (k0_pay54 q1) (o531 KR)
    (kAt VR 0 3 1 (by decide)) (kAt VR 1 3 1 (by decide)) (kAt VR 2 3 1 (by decide)) (kAt VR 3 3 1 (by decide))

/-- What is stored for row block `r` of batch element `b`. -/
def chunk : Fin 4 → Fin 2 → FVec F S1x1x64x512 .bf16
  | 0, 0 => o401 q0 KR VR wo
  | 1, 0 => k0_pay35 (o403 q0 KR VR wo)
  | 2, 0 => k0_pay36 (o396 q0 KR VR wo)
  | 3, 0 => k0_pay37 (o396 q0 KR VR wo)
  | 0, 1 => o563 q1 KR VR wo
  | 1, 1 => k0_pay58 (o558 q1 KR VR wo)
  | 2, 1 => k0_pay59 (o558 q1 KR VR wo)
  | 3, 1 => k0_pay60 (o558 q1 KR VR wo)

/-- The device's whole share, by row block and batch element. -/
def chunks : TR F := fun i => chunk q0 q1 KR VR wo (i 0) (i 1) (ix4 0 0 (i 2) (i 3))

end Heads

/-! ## Device by device -/

variable (m : (ℓ : Loc nD τ sig) → Buf (Elt F) ℓ)

def stg0 (c : Dev nD) : Vec F S2x256x512 .f32 := (win0_0.blk (0 : Fin 1)).view.read (Elt F) (m ((c : Thread nD τ).loc main_arg0))
def stg1 (c : Dev nD) : Vec F S512x256 .f32 := (win0_1.blk (0 : Fin 1)).view.read (Elt F) (m ((c : Thread nD τ).loc main_arg1))
def stg2 (c : Dev nD) : Vec F S2x256x16x64 .f32 := (win0_2.blk (0 : Fin 1)).view.read (Elt F) (m ((c : Thread nD τ).loc main_arg2))
def stg3 (c : Dev nD) : Vec F S2x256x16x64 .f32 := (win0_3.blk (0 : Fin 1)).view.read (Elt F) (m ((c : Thread nD τ).loc main_arg3))
def stg4 (c : Dev nD) : Vec F S256x512 .f32 := (win0_4.blk (0 : Fin 1)).view.read (Elt F) (m ((c : Thread nD τ).loc main_arg4))

/-- One batch element's rows of the staged `x`. -/
abbrev xAt (X : Vec F S2x256x512 .f32) (b : ℕ) (hb : ∀ a, (![b, 0, 0] : Fin 3 → ℕ) a + S1x256x512.size a ≤ S2x256x512.size a) : Vec F S1x256x512 .f32 :=
  (Memref.whole cc0_stg0_0 : Memref sig .tc .vmem S2x256x512 .f32).view.readAt (Elt F)
    (Rect.unit (s := S2x256x512) ![b, 0, 0] S1x256x512.size hb).toLoadRect X

/-- K and V of device `c` by head. -/
def KSc (c : Dev nD) : TS F := k0_pay3 (k0_pay1 (stg2 m c))
def VSc (c : Dev nD) : TS F := k0_pay4 (k0_pay2 (stg3 m c))
/-- The landing buffers: device `p`'s slot `s` is heads `4 p` to `4 p + 3` of device `s`. -/
def gath (B : Dev nD → TS F) (p : Dev nD) : TV F := fun i =>
  B (i 0) (ix4 ⟨4 * p.val + (i 1).val, by have h1 : p.val < 4 := p.isLt; have h2 : (i 1).val < 4 := (i 1).isLt; omega⟩ (i 2) (i 3) (i 4))
def KRc (p : Dev nD) : TV F := gath (KSc m) p
def VRc (p : Dev nD) : TV F := gath (VSc m) p
/-- The queries. -/
def q0c (c : Dev nD) : FVec F S256x256 .bf16 := k0_pay8 (stg1 m c) (xAt (stg0 m c) 0 (by decide))
def q1c (c : Dev nD) : FVec F S256x256 .bf16 := k0_pay9 (stg1 m c) (xAt (stg0 m c) 1 (by decide))
/-- The device's share of the result; the shares of its own row block; the summed row blocks; the result. -/
def PCc (c : Dev nD) : TR F := chunks (q0c m c) (q1c m c) (KRc m c) (VRc m c) (stg4 m c)
def RSc (p : Dev nD) : TR F := fun i => PCc m (i 0) (ix4 p (i 1) (i 2) (i 3))
def AGc : TR F := fun i => k0_pay62 (RSc m (i 0)) (ix4 0 (i 1) (i 2) (i 3))
def outc : Vec F S2x256x512 .f32 := k0_pay63 (AGc m)

end Cert.KernelIdeal.Hand

end
-- ==== Proof.KernelIdeal.Proto.lean ====
/-
The protocol: what every semaphore's one round is paid with, by whom, and what is handed over.

* The barrier of `c` is signalled once by each of the three other devices. A device that signals gives `c` the four slots
  (K, V, partial results, gathered sums) of its OWN landing buffers that `c` will write into.
* A send semaphore (array 0, 2, 4, 6 at slot `j`) of `c` is paid by the copy from `c` to `j`: it gives back what the copy read.
* A receive semaphore (array 1, 3, 5, 7 at slot `j`) of `c` is paid by the copy from `j` to `c`: it gives the slot `j` of
  `c`'s landing buffer, holding what `j` sent.

A device owes, in the program's order, its three barrier signals and its twelve copies; a wait stands below all of the
copies that are still owed.
-/
module

public import proofs.«01_k».proof.Proof.KernelIdeal.Values
public import Idealize.ShloMosaic.Lib.ShareLeaves

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB := URounds (GSem nD τ sig) (Fin 3)
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Ownership of a view -/

/-- A device's view held at share `q`, its buffer's contents there `f`. -/
abbrev own {sp : Space} {s : Shape} {e : EltTy} (M : Memref sig .tc sp s e) (c : Dev nD) (q : PosShare TreeShare) (f : Buf (Elt F) (M.view.loc (c : Thread nD τ))) : sProp 𝕄 :=
  M.view.loc (c : Thread nD τ) ↦[M.view.set]{q} f

/-- The quarter share of a gathered-sum slot lent to the copy to device `j`. -/
abbrev quarter (j : Fin 4) : PosShare TreeShare := ShareLeaves.leaf 2 fullShare j

/-! ## The payloads -/

/-- What the copy between `c` and `j` leaves on `c`'s semaphore of array `a`. -/
def xPay (c : Dev nD) : Fin 8 → Fin 4 → sProp 𝕄
  | 0, j => own (blkVj ksM j) c fullShare (KSc m c)
  | 1, j => own (slotVj krM j) c fullShare (KRc m c)
  | 2, j => own (blkVj vsM j) c fullShare (VSc m c)
  | 3, j => own (slotVj vrM j) c fullShare (VRc m c)
  | 4, j => own (slotRj pcM j) c fullShare (PCc m c)
  | 5, j => own (slotRj rsM j) c fullShare (RSc m c)
  | 6, j => own (slotRj agM c) c (quarter j) (AGc m)
  | 7, j => own (slotRj agM j) c fullShare (AGc m)

/-- The slots of `p`'s landing buffers that `c` will write into. -/
def landing (p c : Dev nD) : sProp 𝕄 :=
  iprop((∃ f, own (F := F) (slotVj krM c) p fullShare f) ∗ (∃ f, own (F := F) (slotVj vrM c) p fullShare f)
    ∗ (∃ f, own (F := F) (slotRj rsM c) p fullShare f) ∗ (∃ f, own (F := F) (slotRj agM c) p fullShare f))

def pay (c : Dev nD) : CIx → Fin 3 → sProp 𝕄
  | none, r => landing (pr c r) c
  | some (a, j), _ => xPay m c a j

instance xPay_storable (c : Dev nD) (a : Fin 8) (j : Fin 4) : BI.Storable (upEmb : UEmb _ 𝕄) (xPay m c a j) := by
  fin_cases a <;> (unfold xPay; infer_instance)
set_option synthInstance.maxHeartbeats 400000 in
instance landing_storable (p c : Dev nD) : BI.Storable (upEmb : UEmb _ 𝕄) (landing (F := F) p c) := by
  unfold landing; infer_instance
instance pay_storable (c : Dev nD) (k : CIx) (r : Fin 3) : BI.Storable (upEmb : UEmb _ 𝕄) (pay m c k r) := by
  rcases k with _ | ⟨a, j⟩
  · exact landing_storable (pr c r) c
  · exact xPay_storable m c a j

/-! ## The schedule -/

/-- Who pays a semaphore of `c`: all three others the barrier, the one copy an own semaphore. -/
def duty (c : Dev nD) : CIx → Finset (Fin 3)
  | none => Finset.univ
  | some (_, j) => if j = c then ∅ else {0}

def sched : Rounds.Schedule (GSem nD τ sig) (Fin 3) 𝕄 where
  duties g r := if r = 0 ∧ g.1.2 = .tc then (match dec g.2 with | some k => duty g.1.1 k | none => ∅) else ∅
  unitless _ := False
  amount g _ _ := match dec g.2 with | some k => amt k | none => 1
  payload g _ d := match dec g.2 with | some k => pay m g.1.1 k d | none => iprop(emp)
  amount_pos g _ _ _ := by
    split
    · exact amt_pos _
    · exact Nat.one_pos

instance sched_storable (g : GSem nD τ sig) (r : ℕ) (d : Fin 3) :
    BI.Storable (upEmb : UEmb _ 𝕄) ((sched (F := F) m).payload g r d) := by
  show BI.Storable upEmb (match dec g.2 with | some k => pay m g.1.1 k d | none => iprop(emp))
  split <;> infer_instance

theorem duties_cell (c : Dev nD) (k : CIx) : (sched m).duties (kcell (c, k)) 0 = duty c k := by
  dsimp only [sched]; rw [if_pos ⟨rfl, rfl⟩, dec_csem]
theorem duties_later (g : GSem nD τ sig) : ∀ r, 1 ≤ r → (sched m).duties g r = ∅ := fun r hr => by
  dsimp only [sched]; rw [if_neg fun h => by omega]
theorem duties_own (c : Dev nD) (a : Fin 8) (r : ℕ) : (sched m).duties (kcell (c, some (a, c))) r = ∅ := by
  rcases Nat.eq_zero_or_pos r with rfl | h
  · rw [duties_cell]; exact if_pos rfl
  · exact duties_later m _ r h
theorem amount_cell (c : Dev nD) (k : CIx) (r : ℕ) (d : Fin 3) : (sched m).amount (kcell (c, k)) r d = amt k := by
  dsimp only [sched]; rw [dec_csem]
theorem payload_cell (c : Dev nD) (k : CIx) (r : ℕ) (d : Fin 3) : (sched m).payload (kcell (c, k)) r d = pay m c k d := by
  dsimp only [sched]; rw [dec_csem]

theorem expect_bar (c : Dev nD) : (sched m).expect (kcell (c, none)) 0 = 3 := by
  unfold Schedule.expect Schedule.amountOf
  rw [duties_cell, Finset.sum_congr rfl fun d _ => amount_cell m c none 0 d]
  rfl
theorem expect_own (c : Dev nD) (a : Fin 8) (j : Fin 4) (h : j ≠ c) : (sched m).expect (kcell (c, some (a, j))) 0 = amtA a := by
  unfold Schedule.expect Schedule.amountOf
  rw [duties_cell, show duty c (some (a, j)) = {0} from if_neg h, Finset.sum_singleton, amount_cell]
  rfl

/-- What the barrier's round leaves: the three others' landing slots. -/
theorem rest_bar (c : Dev nD) : bigSep ((sched m).duties (kcell (c, none)) 0 \ ∅) (fun d => (sched m).payload (kcell (c, none)) 0 d)
    = iprop(landing (F := F) (pr c 0) c ∗ landing (F := F) (pr c 1) c ∗ landing (F := F) (pr c 2) c) := by
  rw [Finset.sdiff_empty, duties_cell, show duty c none = Finset.univ from rfl, bigSep_univ_eq_bigSepL [0, 1, 2] (by decide) (by decide),
    bigSepL_cons_cons, bigSepL_cons_cons, bigSepL_singleton, payload_cell, payload_cell, payload_cell]
  rfl
theorem rest_own (c : Dev nD) (a : Fin 8) (j : Fin 4) (h : j ≠ c) :
    bigSep ((sched m).duties (kcell (c, some (a, j))) 0 \ ∅) (fun d => (sched m).payload (kcell (c, some (a, j))) 0 d) = xPay m c a j := by
  rw [Finset.sdiff_empty, duties_cell, show duty c (some (a, j)) = {0} from if_neg h, bigSep_singleton, payload_cell]
  rfl

/-! ## What a device owes; the levels -/

/-- The credit of a list of semaphores, one payment each. -/
def owe : List (Dev nD × CIx) → CellTallies nD τ sig Unit
  | [] => 0
  | x :: l => owe l + tallyAt (kcell x) () (amt x.2)

/-- The twelve copies of `c` and its three signals, in the program's order. -/
def dues3 (c : Dev nD) : List (Dev nD × CIx) := [(pr c 0, some (7, c)), (pr c 1, some (7, c)), (pr c 2, some (7, c))]
def dues2 (c : Dev nD) : List (Dev nD × CIx) := (pr c 0, some (5, c)) :: (pr c 1, some (5, c)) :: (pr c 2, some (5, c)) :: dues3 c
def dues1 (c : Dev nD) : List (Dev nD × CIx) :=
  (pr c 0, some (1, c)) :: (pr c 0, some (3, c)) :: (pr c 1, some (1, c)) :: (pr c 1, some (3, c)) :: (pr c 2, some (1, c)) :: (pr c 2, some (3, c)) :: dues2 c
def dues (c : Dev nD) : List (Dev nD × CIx) := (pr c 0, none) :: (pr c 1, none) :: (pr c 2, none) :: dues1 c

def lvl : CIx → ℕ
  | none => 1
  | some (a, _) => if a = 1 ∨ a = 3 then 2 else if a = 5 then 3 else if a = 7 then 4 else 0

def L (g : GSem nD τ sig) : Finset Unit := if g.1.2 = .tc then {()} else ∅
def lv (g : GSem nD τ sig) (_ : Unit) : ℕ := match dec g.2 with | some k => lvl k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (x : Dev nD × CIx) : lv (kcell x) () = lvl x.2 := by unfold lv; rw [dec_csem]

theorem owe_pos {l : List (Dev nD × CIx)} {g : GSem nD τ sig} {u : Unit} (h : 0 < owe l g u) : ∃ x ∈ l, g = kcell x := by
  induction l with
  | nil => exact absurd h (Nat.lt_irrefl 0)
  | cons x l ih =>
    unfold owe at h
    rw [Pi.add_apply, Finsupp.add_apply, tallyAt_apply] at h
    by_cases hg : g = kcell x ∧ u = ()
    · exact ⟨x, List.mem_cons_self, hg.1⟩
    · rw [if_neg hg, Nat.add_zero] at h
      obtain ⟨y, hy, e⟩ := ih h
      exact ⟨y, List.mem_cons_of_mem _ hy, e⟩

/-- A wait on a semaphore below everything in the list is allowed while the list is owed. -/
theorem mayWait_list (c : Dev nD) (s : SemLoc sig) (l : List (Dev nD × CIx)) (b : ℕ) (hb : lv ((c : Thread nD τ), s) () ≤ b)
    (h : ∀ x ∈ l, b < lvl x.2) : (levAts L lv : sProp 𝕄) ⊢ MayWait (c : Thread nD τ) s () (owe l) :=
  MayOwe.of_cut (L := L) (lev := lv) b (fun p hp => by rw [Finset.mem_singleton.mp hp, L_tc]; exact Finset.mem_singleton_self _)
    (fun g u hg => by obtain ⟨x, _, rfl⟩ := owe_pos hg; exact Finset.mem_singleton_self _)
    (fun p hp => by rw [Finset.mem_singleton.mp hp]; exact hb)
    (fun g u hg => by obtain ⟨x, hx, rfl⟩ := owe_pos hg; rw [lv_cell]; exact h x hx)

/-! ## Facts every device holds throughout -/

/-- Every semaphore's invariant, and that its round 0 is reached. -/
def records (K : Dev nD × CIx → ℕ) : sProp 𝕄 :=
  iprop((bigSep Finset.univ fun ck : Dev nD × CIx => cellInv ER (sched m) (K ck) (kcell ck))
    ∗ (bigSep Finset.univ fun ck : Dev nD × CIx => reached ER (kcell ck) 0))

instance records_persistent (K : Dev nD × CIx → ℕ) : BI.Persistent (records m K) := by unfold records; infer_instance

theorem records_inv (K : Dev nD × CIx → ℕ) (ck : Dev nD × CIx) : records m K ⊢ cellInv ER (sched m) (K ck) (kcell ck) := by
  unfold records
  exact sep_elim_left.trans (bigSep_elim (Finset.mem_univ ck))
theorem records_reached (K : Dev nD × CIx → ℕ) (ck : Dev nD × CIx) : records m K ⊢ reached ER (kcell ck) 0 := by
  unfold records
  exact sep_elim_right.trans (bigSep_elim (Finset.mem_univ ck))

/-- What the device still owes, whatever it has waited for. -/
def due (c : Dev nD) (l : List (Dev nD × CIx)) : sProp 𝕄 := iprop(∃ W, owes (c : Thread nD τ) (owe l) W)

end Cert.KernelIdeal.Hand

end
-- ==== Proof.KernelIdeal.Slots.lean ====
/-
Where the slots lie and what a copy or a store leaves in one.

A slot's view places index `x` at the slot's number followed by `x`. So a copy of `p`'s heads out of `c`'s send buffer
leaves `gath` at slot `c` of `p`'s landing buffer, and each of the result buffers' copies leaves its named contents.
The four slots of a buffer partition it.
-/
module

public import proofs.«01_k».proof.Proof.KernelIdeal.Proto

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix4 ix5)

variable {F : FTy → Type} [FloatOps F]
local notation "𝕄" => MT nD τ sig Unit (Elt F) ℕ UU ℕ
variable (m : (ℓ : Loc nD τ sig) → Buf (Elt F) ℓ)

/-! ## Where a slot's view lies -/

theorem slotV_emb (M : Memref sig .tc .vmem S4x4x2x256x64 .bf16) (j : Fin 4) (x : S4x2x256x64.Idx) :
    (slotVj M j).view.emb x = M.view.emb (ix5 j (x 0) (x 1) (x 2) (x 3)) := by
  show M.view.emb ((Rect.unit (s := S4x4x2x256x64) ![j.val, 0, 0, 0, 0] S1x4x2x256x64.size (oV_inb j)).emb (Shape.reshapeEquiv _ x)) = _
  have e := Shape.reshapeEquiv_cons_one (n := 4) (d := ![4, 2, 256, 64]) squeezes_S1x4x2x256x64_S4x2x256x64.numel_eq x
  refine congrArg M.view.emb ?_
  refine Eq.trans (congrArg _ e) (funext fun a => Fin.ext ?_)
  refine (Rect.emb_apply _ _ _).trans ?_
  fin_cases a
  · show j.val + 1 * 0 = j.val; omega
  · show 0 + 1 * (x 0).val = (x 0).val; omega
  · show 0 + 1 * (x 1).val = (x 1).val; omega
  · show 0 + 1 * (x 2).val = (x 2).val; omega
  · show 0 + 1 * (x 3).val = (x 3).val; omega

theorem slotR_emb (M : Memref sig .tc .vmem S4x2x64x512 .bf16) (j : Fin 4) (x : S2x64x512.Idx) :
    (slotRj M j).view.emb x = M.view.emb (ix4 j (x 0) (x 1) (x 2)) := by
  show M.view.emb ((Rect.unit (s := S4x2x64x512) ![j.val, 0, 0, 0] S1x2x64x512.size (oR_inb j)).emb (Shape.reshapeEquiv _ x)) = _
  have e := Shape.reshapeEquiv_cons_one (n := 3) (d := ![2, 64, 512]) squeezes_S1x2x64x512_S2x64x512.numel_eq x
  refine congrArg M.view.emb ?_
  refine Eq.trans (congrArg _ e) (funext fun a => Fin.ext ?_)
  refine (Rect.emb_apply _ _ _).trans ?_
  fin_cases a
  · show j.val + 1 * 0 = j.val; omega
  · show 0 + 1 * (x 0).val = (x 0).val; omega
  · show 0 + 1 * (x 1).val = (x 1).val; omega
  · show 0 + 1 * (x 2).val = (x 2).val; omega

theorem blkV_emb (M : Memref sig .tc .vmem S16x2x256x64 .bf16) (j : Fin 4) (x : S4x2x256x64.Idx) :
    (blkVj M j).view.emb x = M.view.emb (ix4 ⟨4 * j.val + (x 0).val, by have := j.isLt; have : (x 0).val < 4 := (x 0).isLt; omega⟩ (x 1) (x 2) (x 3)) := by
  show M.view.emb ((Rect.unit (s := S16x2x256x64) ![4 * j.val, 0, 0, 0] S4x2x256x64.size (oB_inb j)).emb x) = _
  refine congrArg M.view.emb (funext fun a => Fin.ext ?_)
  refine (Rect.emb_apply _ _ _).trans ?_
  fin_cases a
  · show 4 * j.val + 1 * (x 0).val = 4 * j.val + (x 0).val; omega
  · show 0 + 1 * (x 1).val = (x 1).val; omega
  · show 0 + 1 * (x 2).val = (x 2).val; omega
  · show 0 + 1 * (x 3).val = (x 3).val; omega

/-! ## What a copy leaves -/

theorem copied {s : Shape} {e : EltTy} {sp sp' : Space} (src : Memref sig .tc sp s e) (dst : Memref sig .tc sp' s e) (c p : Dev nD)
    (fs : Buf (Elt F) (src.view.loc (c : Thread nD τ))) (fd g : Buf (Elt F) (dst.view.loc (p : Thread nD τ)))
    (h : ∀ x, dst.view.read (Elt F) g x = src.view.read (Elt F) fs x) :
    own dst p fullShare (dst.view.write (Elt F) fd (src.view.read (Elt F) fs) Finset.univ) = own dst p fullShare g := by
  refine pointsTo_congr fun i hi => ?_
  obtain ⟨x, -, rfl⟩ := Finset.mem_map.mp hi
  rw [View.write_emb_of_mem _ _ (Finset.mem_univ x), ← h x, View.read_apply]
  simp

theorem copied_K (c p : Dev nD) (fd : Buf (Elt F) ((slotVj krM c).view.loc (p : Thread nD τ))) :
    own (slotVj krM c) p fullShare ((slotVj krM c).view.write (Elt F) fd ((blkVj ksM p).view.read (Elt F) (KSc m c)) Finset.univ)
      = own (slotVj krM c) p fullShare (KRc m p) :=
  copied (blkVj ksM p) (slotVj krM c) c p _ fd _ fun x => by
    rw [View.read_apply, View.read_apply, slotV_emb, blkV_emb]; rfl
theorem copied_V (c p : Dev nD) (fd : Buf (Elt F) ((slotVj vrM c).view.loc (p : Thread nD τ))) :
    own (slotVj vrM c) p fullShare ((slotVj vrM c).view.write (Elt F) fd ((blkVj vsM p).view.read (Elt F) (VSc m c)) Finset.univ)
      = own (slotVj vrM c) p fullShare (VRc m p) :=
  copied (blkVj vsM p) (slotVj vrM c) c p _ fd _ fun x => by
    rw [View.read_apply, View.read_apply, slotV_emb, blkV_emb]; rfl
theorem copied_P (c p : Dev nD) (fd : Buf (Elt F) ((slotRj rsM c).view.loc (p : Thread nD τ))) :
    own (slotRj rsM c) p fullShare ((slotRj rsM c).view.write (Elt F) fd ((slotRj pcM p).view.read (Elt F) (PCc m c)) Finset.univ)
      = own (slotRj rsM c) p fullShare (RSc m p) :=
  copied (slotRj pcM p) (slotRj rsM c) c p _ fd _ fun x => by
    rw [View.read_apply, View.read_apply, slotR_emb, slotR_emb]; rfl
theorem copied_A (c p : Dev nD) (fd : Buf (Elt F) ((slotRj agM c).view.loc (p : Thread nD τ))) :
    own (slotRj agM c) p fullShare ((slotRj agM c).view.write (Elt F) fd ((slotRj agM c).view.read (Elt F) (AGc m)) Finset.univ)
      = own (slotRj agM c) p fullShare (AGc m) :=
  copied (slotRj agM c) (slotRj agM c) c p _ fd _ fun x => rfl

/-! ## The slots partition a buffer -/

abbrev rectB (j : Fin 4) : Rect S16x2x256x64 := Rect.unit (s := S16x2x256x64) ![4 * j.val, 0, 0, 0] S4x2x256x64.size (oB_inb j)
abbrev rectV (j : Fin 4) : Rect S4x4x2x256x64 := Rect.unit (s := S4x4x2x256x64) ![j.val, 0, 0, 0, 0] S1x4x2x256x64.size (oV_inb j)
abbrev rectR (j : Fin 4) : Rect S4x2x64x512 := Rect.unit (s := S4x2x64x512) ![j.val, 0, 0, 0] S1x2x64x512.size (oR_inb j)

theorem mem_rectB (j : Fin 4) (i : S16x2x256x64.Idx) : i ∈ (rectB j).set ↔ (i 0).val / 4 = j.val := by
  rw [LoadRect.mem_set]
  constructor
  · intro h
    obtain ⟨k, hk, e⟩ := h 0
    have hk' : k < 4 := hk
    have e' : (i 0).val = 4 * j.val + 1 * k := e
    omega
  · intro h a
    refine ⟨(i a).val - (![4 * j.val, 0, 0, 0] : Fin 4 → ℕ) a, ?_, ?_⟩ <;> fin_cases a
    · show (i 0).val - 4 * j.val < 4; omega
    · exact (i 1).isLt
    · exact (i 2).isLt
    · exact (i 3).isLt
    · show (i 0).val = 4 * j.val + 1 * ((i 0).val - 4 * j.val); omega
    · show (i 1).val = 0 + 1 * ((i 1).val - 0); omega
    · show (i 2).val = 0 + 1 * ((i 2).val - 0); omega
    · show (i 3).val = 0 + 1 * ((i 3).val - 0); omega

theorem mem_rectV (j : Fin 4) (i : S4x4x2x256x64.Idx) : i ∈ (rectV j).set ↔ (i 0).val = j.val := by
  rw [LoadRect.mem_set]
  constructor
  · intro h
    obtain ⟨k, hk, e⟩ := h 0
    have hk' : k < 1 := hk
    have e' : (i 0).val = j.val + 1 * k := e
    omega
  · intro h a
    refine ⟨(i a).val - (![j.val, 0, 0, 0, 0] : Fin 5 → ℕ) a, ?_, ?_⟩ <;> fin_cases a
    · show (i 0).val - j.val < 1; omega
    · exact (i 1).isLt
    · exact (i 2).isLt
    · exact (i 3).isLt
    · exact (i 4).isLt
    · show (i 0).val = j.val + 1 * ((i 0).val - j.val); omega
    · show (i 1).val = 0 + 1 * ((i 1).val - 0); omega
    · show (i 2).val = 0 + 1 * ((i 2).val - 0); omega
    · show (i 3).val = 0 + 1 * ((i 3).val - 0); omega
    · show (i 4).val = 0 + 1 * ((i 4).val - 0); omega

theorem mem_rectR (j : Fin 4) (i : S4x2x64x512.Idx) : i ∈ (rectR j).set ↔ (i 0).val = j.val := by
  rw [LoadRect.mem_set]
  constructor
  · intro h
    obtain ⟨k, hk, e⟩ := h 0
    have hk' : k < 1 := hk
    have e' : (i 0).val = j.val + 1 * k := e
    omega
  · intro h a
    refine ⟨(i a).val - (![j.val, 0, 0, 0] : Fin 4 → ℕ) a, ?_, ?_⟩ <;> fin_cases a
    · show (i 0).val - j.val < 1; omega
    · exact (i 1).isLt
    · exact (i 2).isLt
    · exact (i 3).isLt
    · show (i 0).val = j.val + 1 * ((i 0).val - j.val); omega
    · show (i 1).val = 0 + 1 * ((i 1).val - 0); omega
    · show (i 2).val = 0 + 1 * ((i 2).val - 0); omega
    · show (i 3).val = 0 + 1 * ((i 3).val - 0); omega

/-- The four devices around `c`: itself and its partners. -/
theorem around {PROP : Fin 4 → sProp 𝕄} (c : Dev nD) :
    bigSep Finset.univ PROP = iprop(PROP c ∗ PROP (pr c 0) ∗ PROP (pr c 1) ∗ PROP (pr c 2)) := by
  rw [bigSep_univ_eq_bigSepL [(c : Fin 4), pr c 0, pr c 1, pr c 2] (by revert c; decide) (by revert c; decide),
    bigSepL_cons_cons, bigSepL_cons_cons, bigSepL_cons_cons, bigSepL_singleton]
  rfl

/-- A buffer whose elements are numbered by `n` is the four parts with each number. -/
theorem parts {ℓ : Loc nD τ sig} (n : Idx ℓ → ℕ) (hn : ∀ i, n i < 4) (K : Fin 4 → Finset (Idx ℓ)) (hK : ∀ j i, i ∈ K j ↔ n i = j.val)
    (c : Dev nD) (q : PosShare TreeShare) (f : Buf (Elt F) ℓ) :
    (ℓ ↦{q} f : sProp 𝕄) = iprop((ℓ ↦[K c]{q} f) ∗ (ℓ ↦[K (pr c 0)]{q} f) ∗ (ℓ ↦[K (pr c 1)]{q} f) ∗ (ℓ ↦[K (pr c 2)]{q} f)) := by
  rw [← around (PROP := fun j => (ℓ ↦[K j]{q} f : sProp 𝕄)) c, ← pointsTo_biUnion (Finset.univ) K]
  · congr 1
    ext i
    simp only [Finset.mem_univ, Finset.mem_biUnion, true_and, true_iff]
    exact ⟨⟨n i, hn i⟩, (hK _ _).mpr rfl⟩
  · intro t _ t' _ hne
    refine Finset.disjoint_left.mpr fun i h h' => hne (Fin.ext ?_)
    rw [← (hK _ _).mp h, ← (hK _ _).mp h']

theorem parts_K (c : Dev nD) (q : PosShare TreeShare) (f : Buf (Elt F) ((c : Thread nD τ).loc cc0_scratch0)) :
    (((c : Thread nD τ).loc cc0_scratch0) ↦{q} f : sProp 𝕄)
      = iprop(own (blkVj ksM c) c q f ∗ own (blkVj ksM (pr c 0)) c q f ∗ own (blkVj ksM (pr c 1)) c q f ∗ own (blkVj ksM (pr c 2)) c q f) :=
  parts (F := F) (ℓ := (c : Thread nD τ).loc cc0_scratch0) (fun i : S16x2x256x64.Idx => (i 0).val / 4)
    (fun i => by have : (i 0).val < 16 := (i 0).isLt; omega) (fun j => (blkVj ksM j).view.set)
    (fun j i => by rw [← mem_rectB, View.set_slice_whole]) c q f
theorem parts_V (c : Dev nD) (q : PosShare TreeShare) (f : Buf (Elt F) ((c : Thread nD τ).loc cc0_scratch1)) :
    (((c : Thread nD τ).loc cc0_scratch1) ↦{q} f : sProp 𝕄)
      = iprop(own (blkVj vsM c) c q f ∗ own (blkVj vsM (pr c 0)) c q f ∗ own (blkVj vsM (pr c 1)) c q f ∗ own (blkVj vsM (pr c 2)) c q f) :=
  parts (F := F) (ℓ := (c : Thread nD τ).loc cc0_scratch1) (fun i : S16x2x256x64.Idx => (i 0).val / 4)
    (fun i => by have : (i 0).val < 16 := (i 0).isLt; omega) (fun j => (blkVj vsM j).view.set)
    (fun j i => by rw [← mem_rectB, View.set_slice_whole]) c q f
theorem parts_KR (c : Dev nD) (q : PosShare TreeShare) (f : Buf (Elt F) ((c : Thread nD τ).loc cc0_scratch2)) :
    (((c : Thread nD τ).loc cc0_scratch2) ↦{q} f : sProp 𝕄)
      = iprop(own (slotVj krM c) c q f ∗ own (slotVj krM (pr c 0)) c q f ∗ own (slotVj krM (pr c 1)) c q f ∗ own (slotVj krM (pr c 2)) c q f) :=
  parts (F := F) (ℓ := (c : Thread nD τ).loc cc0_scratch2) (fun i : S4x4x2x256x64.Idx => (i 0).val) (fun i => (i 0).isLt)
    (fun j => (slotVj krM j).view.set) (fun j i => by rw [← mem_rectV, View.set_reshape, View.set_slice_whole]) c q f
theorem parts_VR (c : Dev nD) (q : PosShare TreeShare) (f : Buf (Elt F) ((c : Thread nD τ).loc cc0_scratch3)) :
    (((c : Thread nD τ).loc cc0_scratch3) ↦{q} f : sProp 𝕄)
      = iprop(own (slotVj vrM c) c q f ∗ own (slotVj vrM (pr c 0)) c q f ∗ own (slotVj vrM (pr c 1)) c q f ∗ own (slotVj vrM (pr c 2)) c q f) :=
  parts (F := F) (ℓ := (c : Thread nD τ).loc cc0_scratch3) (fun i : S4x4x2x256x64.Idx => (i 0).val) (fun i => (i 0).isLt)
    (fun j => (slotVj vrM j).view.set) (fun j i => by rw [← mem_rectV, View.set_reshape, View.set_slice_whole]) c q f
theorem parts_P (c : Dev nD) (q : PosShare TreeShare) (f : Buf (Elt F) ((c : Thread nD τ).loc cc0_scratch4)) :
    (((c : Thread nD τ).loc cc0_scratch4) ↦{q} f : sProp 𝕄)
      = iprop(own (slotRj pcM c) c q f ∗ own (slotRj pcM (pr c 0)) c q f ∗ own (slotRj pcM (pr c 1)) c q f ∗ own (slotRj pcM (pr c 2)) c q f) :=
  parts (F := F) (ℓ := (c : Thread nD τ).loc cc0_scratch4) (fun i : S4x2x64x512.Idx => (i 0).val) (fun i => (i 0).isLt)
    (fun j => (slotRj pcM j).view.set) (fun j i => by rw [← mem_rectR, View.set_reshape, View.set_slice_whole]) c q f
theorem parts_R (c : Dev nD) (q : PosShare TreeShare) (f : Buf (Elt F) ((c : Thread nD τ).loc cc0_scratch5)) :
    (((c : Thread nD τ).loc cc0_scratch5) ↦{q} f : sProp 𝕄)
      = iprop(own (slotRj rsM c) c q f ∗ own (slotRj rsM (pr c 0)) c q f ∗ own (slotRj rsM (pr c 1)) c q f ∗ own (slotRj rsM (pr c 2)) c q f) :=
  parts (F := F) (ℓ := (c : Thread nD τ).loc cc0_scratch5) (fun i : S4x2x64x512.Idx => (i 0).val) (fun i => (i 0).isLt)
    (fun j => (slotRj rsM j).view.set) (fun j i => by rw [← mem_rectR, View.set_reshape, View.set_slice_whole]) c q f
theorem parts_A (c : Dev nD) (q : PosShare TreeShare) (f : Buf (Elt F) ((c : Thread nD τ).loc cc0_scratch6)) :
    (((c : Thread nD τ).loc cc0_scratch6) ↦{q} f : sProp 𝕄)
      = iprop(own (slotRj agM c) c q f ∗ own (slotRj agM (pr c 0)) c q f ∗ own (slotRj agM (pr c 1)) c q f ∗ own (slotRj agM (pr c 2)) c q f) :=
  parts (F := F) (ℓ := (c : Thread nD τ).loc cc0_scratch6) (fun i : S4x2x64x512.Idx => (i 0).val) (fun i => (i 0).isLt)
    (fun j => (slotRj agM j).view.set) (fun j i => by rw [← mem_rectR, View.set_reshape, View.set_slice_whole]) c q f

/-- Ownership of a slot at the full share is its four quarters. -/
theorem quarters {ℓ : Loc nD τ sig} (I : Finset (Idx ℓ)) (f : Buf (Elt F) ℓ) (c : Dev nD) :
    (ℓ ↦[I]{fullShare} f : sProp 𝕄)
      = iprop((ℓ ↦[I]{quarter c} f) ∗ (ℓ ↦[I]{quarter (pr c 0)} f) ∗ (ℓ ↦[I]{quarter (pr c 1)} f) ∗ (ℓ ↦[I]{quarter (pr c 2)} f)) := by
  rw [ShareLeaves.pointsTo_leaves I f 2 fullShare]
  exact around (PROP := fun j => (ℓ ↦[I]{quarter j} f : sProp 𝕄)) c

end Cert.KernelIdeal.Hand

end
-- ==== Proof.KernelIdeal.Stores.lean ====
/-
What the body's stores leave: the device's own slots of the landing buffers, and the eight row blocks of its share.
-/
module

public import proofs.«01_k».proof.Proof.KernelIdeal.Slots

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix4 ix5)

variable {F : FTy → Type} [FloatOps F]
local notation "𝕄" => MT nD τ sig Unit (Elt F) ℕ UU ℕ
variable (m : (ℓ : Loc nD τ sig) → Buf (Elt F) ℓ)

/-- A store over a rectangle leaves, on the elements under it, whatever reads there as what was stored. -/
theorem stored {s : Shape} {e : EltTy} {sp : Space} (M : Memref sig .tc sp s e) (r : Rect s) (p : Dev nD)
    (S : Finset (Idx ((M.access r).loc (p : Thread nD τ)))) (hS : S ⊆ (M.access r).set)
    (f g : Buf (Elt F) ((M.access r).loc (p : Thread nD τ))) (w : r.shape.Idx → Elt F e) (h : ∀ x, (M.access r).read (Elt F) g x = w x) :
    ((M.access r).loc (p : Thread nD τ) ↦[S]{fullShare} ((M.access r).write (Elt F) f w Finset.univ) : sProp 𝕄)
      = ((M.access r).loc (p : Thread nD τ) ↦[S]{fullShare} g) := by
  refine pointsTo_congr fun i hi => ?_
  obtain ⟨x, -, rfl⟩ := Finset.mem_map.mp (hS hi)
  rw [View.write_emb_of_mem _ _ (Finset.mem_univ x), ← h x, View.read_apply]
  simp

/-- The set a slot's view covers is that of the rectangle a load or store names. -/
theorem slotV_set (M : Memref sig .tc .vmem S4x4x2x256x64 .bf16) (o : Fin 5 → ℕ) (h) : (slotV M o h).view.set = (M.access (Rect.unit (s := S4x4x2x256x64) o S1x4x2x256x64.size h)).set :=
  View.set_reshape _ _
theorem slotR_set (M : Memref sig .tc .vmem S4x2x64x512 .bf16) (o : Fin 4 → ℕ) (h) : (slotR M o h).view.set = (M.access (Rect.unit (s := S4x2x64x512) o S1x2x64x512.size h)).set :=
  View.set_reshape _ _

theorem pay5_apply (w : Vec F S4x2x256x64 .bf16) (x : S1x4x2x256x64.Idx) : k0_pay5 w x = w (ix4 (x 1) (x 2) (x 3) (x 4)) := by
  unfold k0_pay5
  rw [shapeCast_self]
  refine (shapeCast_addUnit_apply (n := 4) ![4, 2, 256, 64] w _ x).trans (congrArg w (funext fun a => ?_))
  fin_cases a <;> rfl
theorem pay6_apply (w : Vec F S4x2x256x64 .bf16) (x : S1x4x2x256x64.Idx) : k0_pay6 w x = w (ix4 (x 1) (x 2) (x 3) (x 4)) := pay5_apply w x

theorem emb_rectV (j : Fin 4) (x : S1x4x2x256x64.Idx) : (rectV j).emb x = ix5 j (x 1) (x 2) (x 3) (x 4) := by
  funext a; refine Fin.ext ((Rect.emb_apply _ _ _).trans ?_)
  have : (x 0).val < 1 := (x 0).isLt
  fin_cases a
  · show j.val + 1 * (x 0).val = j.val; omega
  · show 0 + 1 * (x 1).val = (x 1).val; omega
  · show 0 + 1 * (x 2).val = (x 2).val; omega
  · show 0 + 1 * (x 3).val = (x 3).val; omega
  · show 0 + 1 * (x 4).val = (x 4).val; omega
theorem emb_rectR (j : Fin 4) (x : S1x2x64x512.Idx) : (rectR j).emb x = ix4 j (x 1) (x 2) (x 3) := by
  funext a; refine Fin.ext ((Rect.emb_apply _ _ _).trans ?_)
  have : (x 0).val < 1 := (x 0).isLt
  fin_cases a
  · show j.val + 1 * (x 0).val = j.val; omega
  · show 0 + 1 * (x 1).val = (x 1).val; omega
  · show 0 + 1 * (x 2).val = (x 2).val; omega
  · show 0 + 1 * (x 3).val = (x 3).val; omega

/-- The device's own slot of the K and V landing buffers, copied from its own heads. -/
theorem stored_K (c : Dev nD) (o2 : Fin 5 → ℕ) (h2) (e2 : o2 = ![c.val, 0, 0, 0, 0]) (o1 : Fin 4 → ℕ) (h1) (e1 : o1 = ![4 * c.val, 0, 0, 0])
    (f : Buf (Elt F) ((slotVj krM c).view.loc (c : Thread nD τ))) :
    ((krM.access (Rect.unit (s := S4x4x2x256x64) o2 S1x4x2x256x64.size h2)).loc (c : Thread nD τ)
        ↦[(slotVj krM c).view.set]{fullShare} ((krM.access (Rect.unit (s := S4x4x2x256x64) o2 S1x4x2x256x64.size h2)).write (Elt F) f
          (k0_pay5 (ksM.view.readAt (Elt F) (Rect.unit (s := S16x2x256x64) o1 S4x2x256x64.size h1).toLoadRect (KSc m c))) Finset.univ) : sProp 𝕄)
      = own (slotVj krM c) c fullShare (KRc m c) := by
  subst e2 e1
  refine stored krM (rectV c) c _ (by rw [slotV_set]) f (KRc m c) _ fun x => ?_
  rw [pay5_apply, View.readAt_apply, View.read_apply, View.read_apply]
  show KRc m c ((rectV c).emb x) = KSc m c ((rectB c).emb (ix4 (x 1) (x 2) (x 3) (x 4)))
  rw [emb_rectV]
  refine congrArg (KSc m c) (funext fun a => Fin.ext (Eq.symm ((Rect.emb_apply _ _ _).trans ?_)))
  fin_cases a
  · show 4 * c.val + 1 * (x 1).val = 4 * c.val + (x 1).val; omega
  · show 0 + 1 * (x 2).val = (x 2).val; omega
  · show 0 + 1 * (x 3).val = (x 3).val; omega
  · show 0 + 1 * (x 4).val = (x 4).val; omega
theorem stored_V (c : Dev nD) (o2 : Fin 5 → ℕ) (h2) (e2 : o2 = ![c.val, 0, 0, 0, 0]) (o1 : Fin 4 → ℕ) (h1) (e1 : o1 = ![4 * c.val, 0, 0, 0])
    (f : Buf (Elt F) ((slotVj vrM c).view.loc (c : Thread nD τ))) :
    ((vrM.access (Rect.unit (s := S4x4x2x256x64) o2 S1x4x2x256x64.size h2)).loc (c : Thread nD τ)
        ↦[(slotVj vrM c).view.set]{fullShare} ((vrM.access (Rect.unit (s := S4x4x2x256x64) o2 S1x4x2x256x64.size h2)).write (Elt F) f
          (k0_pay6 (vsM.view.readAt (Elt F) (Rect.unit (s := S16x2x256x64) o1 S4x2x256x64.size h1).toLoadRect (VSc m c))) Finset.univ) : sProp 𝕄)
      = own (slotVj vrM c) c fullShare (VRc m c) := by
  subst e2 e1
  refine stored vrM (rectV c) c _ (by rw [slotV_set]) f (VRc m c) _ fun x => ?_
  rw [pay6_apply, View.readAt_apply, View.read_apply, View.read_apply]
  show VRc m c ((rectV c).emb x) = VSc m c ((rectB c).emb (ix4 (x 1) (x 2) (x 3) (x 4)))
  rw [emb_rectV]
  refine congrArg (VSc m c) (funext fun a => Fin.ext (Eq.symm ((Rect.emb_apply _ _ _).trans ?_)))
  fin_cases a
  · show 4 * c.val + 1 * (x 1).val = 4 * c.val + (x 1).val; omega
  · show 0 + 1 * (x 2).val = (x 2).val; omega
  · show 0 + 1 * (x 3).val = (x 3).val; omega
  · show 0 + 1 * (x 4).val = (x 4).val; omega

/-- The device's own slot of the partial results of its row block. -/
theorem stored_R (c : Dev nD) (o : Fin 4 → ℕ) (h) (e : o = ![c.val, 0, 0, 0]) (f : Buf (Elt F) ((slotRj rsM c).view.loc (c : Thread nD τ))) :
    ((rsM.access (Rect.unit (s := S4x2x64x512) o S1x2x64x512.size h)).loc (c : Thread nD τ)
        ↦[(slotRj rsM c).view.set]{fullShare} ((rsM.access (Rect.unit (s := S4x2x64x512) o S1x2x64x512.size h)).write (Elt F) f
          (k0_pay61 (pcM.view.readAt (Elt F) (Rect.unit (s := S4x2x64x512) o S1x2x64x512.size h).toLoadRect (PCc m c))) Finset.univ) : sProp 𝕄)
      = own (slotRj rsM c) c fullShare (RSc m c) := by
  subst e
  refine stored rsM (rectR c) c _ (by rw [slotR_set]) f (RSc m c) _ fun x => ?_
  unfold k0_pay61
  rw [shapeCast_self, View.readAt_apply, View.read_apply, View.read_apply]
  show RSc m c ((rectR c).emb x) = PCc m c ((rectR c).emb x)
  rw [emb_rectR]; rfl

theorem pay62_lead (w : Vec F S4x2x64x512 .bf16) (x : S1x2x64x512.Idx) : k0_pay62 w x = k0_pay62 w (ix4 0 (x 1) (x 2) (x 3)) := by
  refine congrArg _ (funext fun a => ?_)
  fin_cases a
  · exact Fin.ext (by have : (x 0).val < 1 := (x 0).isLt; show (x 0).val = 0; omega)
  all_goals rfl

/-- The device's own slot of the summed row blocks. -/
theorem stored_A (c : Dev nD) (o : Fin 4 → ℕ) (h) (e : o = ![c.val, 0, 0, 0]) (f : Buf (Elt F) ((slotRj agM c).view.loc (c : Thread nD τ))) :
    ((agM.access (Rect.unit (s := S4x2x64x512) o S1x2x64x512.size h)).loc (c : Thread nD τ)
        ↦[(slotRj agM c).view.set]{fullShare} ((agM.access (Rect.unit (s := S4x2x64x512) o S1x2x64x512.size h)).write (Elt F) f
          (k0_pay62 (RSc m c)) Finset.univ) : sProp 𝕄)
      = own (slotRj agM c) c fullShare (AGc m) := by
  subst e
  refine stored agM (rectR c) c _ (by rw [slotR_set]) f (AGc m) _ fun x => ?_
  rw [View.read_apply]
  show AGc m ((rectR c).emb x) = _
  rw [emb_rectR, pay62_lead]; rfl

/-- A row block of one batch element put into the device's share. -/
def put (f : TR F) (r b : ℕ) (w : FVec F S1x1x64x512 .bf16) : TR F := fun i =>
  if (i 0).val = r ∧ (i 1).val = b then w (ix4 0 0 (i 2) (i 3)) else f i

theorem stored_P (f : TR F) (r b : ℕ) (h) (w : FVec F S1x1x64x512 .bf16) :
    (pcM.access (Rect.unit (s := S4x2x64x512) ![r, b, 0, 0] S1x1x64x512.size h)).write (Elt F) f w Finset.univ = put f r b w := by
  funext i
  by_cases hi : (i 0).val = r ∧ (i 1).val = b
  · have he : (pcM.access (Rect.unit (s := S4x2x64x512) ![r, b, 0, 0] S1x1x64x512.size h)).emb (ix4 0 0 (i 2) (i 3)) = i := by
      funext a
      refine Fin.ext ((Rect.emb_apply _ _ _).trans ?_)
      fin_cases a
      · show r + 1 * 0 = (i 0).val; omega
      · show b + 1 * 0 = (i 1).val; omega
      · show 0 + 1 * (i 2).val = (i 2).val; omega
      · show 0 + 1 * (i 3).val = (i 3).val; omega
    unfold put; rw [if_pos hi]
    have hw := View.write_emb_of_mem (v := pcM.access (Rect.unit (s := S4x2x64x512) ![r, b, 0, 0] S1x1x64x512.size h)) (Val := Elt F) f w
      (Finset.mem_univ (ix4 0 0 (i 2) (i 3)))
    exact (congrArg _ he.symm).trans hw
  · unfold put; rw [if_neg hi]
    refine View.write_of_not_mem _ _ _ fun hm => hi ?_
    obtain ⟨x, -, hx⟩ := Finset.mem_map.mp hm
    have h0 : (x 0).val < 1 := (x 0).isLt
    have h1 : (x 1).val < 1 := (x 1).isLt
    subst hx
    constructor
    · show r + 1 * (x 0).val = r; omega
    · show b + 1 * (x 1).val = b; omega

/-- All eight row blocks put: the whole share. -/
theorem puts_eq (q0 q1 : FVec F S256x256 .bf16) (KR VR : TV F) (wo : Vec F S256x512 .f32) (f : TR F) :
    put (put (put (put (put (put (put (put f 0 0 (o401 q0 KR VR wo)) 1 0 (k0_pay35 (o403 q0 KR VR wo))) 2 0 (k0_pay36 (o396 q0 KR VR wo)))
      3 0 (k0_pay37 (o396 q0 KR VR wo))) 0 1 (o563 q1 KR VR wo)) 1 1 (k0_pay58 (o558 q1 KR VR wo))) 2 1 (k0_pay59 (o558 q1 KR VR wo)))
      3 1 (k0_pay60 (o558 q1 KR VR wo)) = chunks q0 q1 KR VR wo := by
  funext i
  have key : ∀ (r : Fin 4) (b : Fin 2), i 0 = r → i 1 = b → put (put (put (put (put (put (put (put f 0 0 (o401 q0 KR VR wo)) 1 0 (k0_pay35 (o403 q0 KR VR wo)))
      2 0 (k0_pay36 (o396 q0 KR VR wo))) 3 0 (k0_pay37 (o396 q0 KR VR wo))) 0 1 (o563 q1 KR VR wo)) 1 1 (k0_pay58 (o558 q1 KR VR wo)))
      2 1 (k0_pay59 (o558 q1 KR VR wo))) 3 1 (k0_pay60 (o558 q1 KR VR wo)) i = chunk q0 q1 KR VR wo r b (ix4 0 0 (i 2) (i 3)) := by
    intro r b hr hb
    unfold put
    rw [hr, hb]
    fin_cases r <;> fin_cases b <;> simp [chunk]
  exact key _ _ rfl rfl

end Cert.KernelIdeal.Hand

end
-- ==== Proof.KernelIdeal.Steps.lean ====
/-
The remote operations of the body, each proved once: a barrier signal, the barrier's wait, a copy of each family, a wait
on an own semaphore. The offsets and devices the program names enter by the equations that give them.
-/
module

public import proofs.«01_k».proof.Proof.KernelIdeal.Stores

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## What a device holds of its copy number `r` of each family -/

/-- The two tokens with which the copy from array `a` of `c` to array `a'` of the partner is paid. -/
def tk (c : Dev nD) (a a' : Fin 8) (r : Fin 3) : sProp 𝕄 :=
  iprop(dutyTok ER (kcell (c, some (a, pr c r))) 0 0 ∗ dutyTok ER (kcell (pr c r, some (a', c))) 0 0)
/-- The credit to wait on an own semaphore with. -/
def cr (c : Dev nD) (a : Fin 8) (r : Fin 3) : sProp 𝕄 := cred (tallyAt (kcell (c, some (a, pr c r))) () (amtA a))
/-- The device's place at an own semaphore: before its round `n`. -/
def pos (c : Dev nD) (a : Fin 8) (r : Fin 3) (n : ℕ) : sProp 𝕄 := atPos ER (kcell (c, some (a, pr c r))) n ∅ 0

variable (K : Dev nD × CIx → ℕ) (c : Dev nD)

/-- The loops carry no variant. -/
abbrev 𝒱₀ : Variants := Variants.none
/-- A program at device `c`, with the results it must end in. -/
abbrev run {β : Type} (c : Dev nD) (p : Prog (TpuEff nD τ sig (Elt F) Λ₀ .tc) β) (Q : β → sProp 𝕄) : sProp 𝕄 :=
  wp frame (wpE (defs₀ (F := F)) 𝒱₀ (c : Thread nD τ) none) Set.univ p Q

/-- A barrier signal to the partner, with the slots of this device it will write into. -/
theorem step_signal {α : Type} {Q : α → sProp 𝕄} {k : PUnit → Prog (TpuEff nD τ sig (Elt F) Λ₀ .tc) α}
    (r : Fin 3) (n : Dev nD) (hn : n = pr c r) (u : ℕ) (hu : 1 = u) (l : List (Dev nD × CIx)) :
    iprop(records m K ∗ due (F := F) c ((pr c r, none) :: l) ∗ dutyTok ER (kcell (pr c r, none)) 0 (rv r) ∗ landing (F := F) c (pr c r))
      ⊢ iprop((due (F := F) c l -∗ run c (k ⟨⟩) Q) -∗ run c (.op (.semSignal (Dev.tc n : Thread nD τ) barS u) k) Q) := by
  subst hn
  unfold due
  iintro ⟨#HR, ⟨%W, HO⟩, Ht, Hl⟩ Hk
  iapply (Rounds.wp_signal 𝒱₀ ER (sched m) (c : Thread nD τ) none (dst := (pr c r : Thread nD τ)) (sem := barS) (r := 0) (κ := K (pr c r, none))
      (d := rv r) (by rw [show (((pr c r : Thread nD τ), SemLoc.reg barS) : GSem nD τ sig) = kcell (pr c r, none) from rfl, duties_cell]; exact Finset.mem_univ _)
      ((amount_cell m (pr c r) none 0 (rv r)).trans hu) () (owe l) (by rw [← hu]; first | done | rfl)) $$ [HO Ht Hl]
  · isplitr; · iapply (records_inv m K (pr c r, none)); iexact HR
    isplitl [HO]; · iexact HO
    isplitl [Ht]; · iexact Ht
    isplitl [Hl]
    · rw [show (((pr c r : Thread nD τ), SemLoc.reg barS) : GSem nD τ sig) = kcell (pr c r, none) from rfl, payload_cell]
      iapply (Entails.of_eq (show landing (F := F) c (pr c r) = pay m (pr c r) none (rv r) from (show _ = landing (F := F) (pr (pr c r) (rv r)) (pr c r) by rw [pr_rv]))); iexact Hl
    · iapply (records_reached m K (pr c r, none)); iexact HR
  iintro HO
  iapply Hk
  iexists W; iexact HO

/-- The wait for the three others' signals: their landing slots. -/
theorem step_barrier {α : Type} {Q : α → sProp 𝕄} {k : PUnit → Prog (TpuEff nD τ sig (Elt F) Λ₀ .tc) α}
    (u : ℕ) (hu : u = 3) (l : List (Dev nD × CIx)) (hl : ∀ x ∈ l, 1 < lvl x.2) :
    iprop(records m K ∗ levAts L lv ∗ cred (tallyAt (kcell (c, none)) () 3) ∗ due (F := F) c l ∗ atPos ER (kcell (c, none)) 0 ∅ 0)
      ⊢ iprop(((due (F := F) c l ∗ atPos ER (kcell (c, none)) 1 ∅ 0 ∗ landing (F := F) (pr c 0) c ∗ landing (F := F) (pr c 1) c ∗ landing (F := F) (pr c 2) c)
          -∗ run c (k ⟨⟩) Q) -∗ run c (.op (.semWait barS u) k) Q) := by
  subst hu
  unfold due
  iintro ⟨#HR, #Hlev, Hc, ⟨%W, HO⟩, Hat⟩ Hk
  iapply (Rounds.wp_wait_rest_token 𝒱₀ ER (sched m) (c : Thread nD τ) none (κ := K (c, none))
      (wpE_semWait_eq 𝒱₀ (c : Thread nD τ) none Set.univ) (Set.mem_univ _) () (O := owe l) (W := W) (R := 0) (m := 0) (T := ∅)
      (by rw [Nat.zero_add]; exact (expect_bar m c).symm)) $$ [Hc HO Hat]
  · isplitr; · iapply (records_inv m K (c, none)); iexact HR
    isplitl [Hc]; · iexact Hc
    isplitl [HO]; · iexact HO
    isplitr
    · iapply (mayWait_list c (csem none) l 1 (by rw [lv_cell (c, none)]; exact le_refl _) hl); iexact Hlev
    iexact Hat
  iintro ⟨HO, Hat, -, Hp⟩
  ihave Hp := (Entails.of_eq (rest_bar m c)) $$ Hp
  icases Hp with ⟨H0, H1, H2⟩
  iapply Hk
  isplitl [HO]; · iexists _; iexact HO
  isplitl [Hat]; · iexact Hat
  isplitl [H0]; · iexact H0
  isplitl [H1]; · iexact H1
  iexact H2

/-- A wait on an own semaphore: what the copy left there. -/
theorem step_wait {α : Type} {Q : α → sProp 𝕄} {k : PUnit → Prog (TpuEff nD τ sig (Elt F) Λ₀ .tc) α}
    (a : Fin 8) (r : Fin 3) (S : DmaSem sig) (hS : S = semj a (pr c r)) {s : Shape} {e : EltTy} {sp sp' : Space}
    (src : Memref sig .tc sp s e) (dst : Memref sig .tc sp' s e) (hN : dst.view.dmaCredit = amtA a) {h1 : src.view.WordExact} {h2 : dst.view.WordExact}
    (l : List (Dev nD × CIx)) (hl : ∀ x ∈ l, lvl (some (a, pr c r)) < lvl x.2) :
    iprop(records m K ∗ levAts L lv ∗ cr (F := F) c a r ∗ due (F := F) c l ∗ pos (F := F) c a r 0)
      ⊢ iprop(((due (F := F) c l ∗ pos (F := F) c a r 1 ∗ xPay m c a (pr c r)) -∗ run c (k ⟨⟩) Q)
          -∗ run c (.op (.waitDma2 S src dst h1 h2) k) Q) := by
  subst hS
  unfold due cr pos
  iintro ⟨#HR, #Hlev, Hc, ⟨%W, HO⟩, Hat⟩ Hk
  iapply (Rounds.wp_wait_rest_token 𝒱₀ ER (sched m) (c : Thread nD τ) none (κ := K (c, some (a, pr c r))) (k' := dst.view.dmaCredit)
      (wpE_waitDma2_eq 𝒱₀ (c : Thread nD τ) none Set.univ) (Set.mem_univ _) () (O := owe l) (W := W) (R := 0) (m := 0) (T := ∅)
      (by rw [Nat.zero_add, hN]; exact (expect_own m c a (pr c r) (pr_ne c r)).symm)) $$ [Hc HO Hat]
  · isplitr; · iapply (records_inv m K (c, some (a, pr c r))); iexact HR
    isplitl [Hc]; · rw [hN]; iexact Hc
    isplitl [HO]; · iexact HO
    isplitr
    · iapply (mayWait_list c (osem (a, pr c r)) l (lvl (some (a, pr c r))) (by rw [lv_cell (c, some (a, pr c r))]) hl); iexact Hlev
    iexact Hat
  iintro ⟨HO, Hat, -, Hp⟩
  ihave Hp := (Entails.of_eq (rest_own m c a (pr c r) (pr_ne c r))) $$ Hp
  iapply Hk
  isplitl [HO]; · iexists _; iexact HO
  isplitl [Hat]; · iexact Hat
  iexact Hp

/-- A copy to the partner, from the semaphore arrays `a` (send) and `a'` (receive). -/
theorem step_send {α : Type} {Q : α → sProp 𝕄} {k : PUnit → Prog (TpuEff nD τ sig (Elt F) Λ₀ .tc) α}
    (a a' : Fin 8) (r : Fin 3) (n : Dev nD) (hn : n = pr c r) (haa : amtA a' = amtA a) {s : Shape} {e : EltTy}
    (src dst : Memref sig .tc .vmem s e) (S R : DmaSem sig) (hS : S = semj a (pr c r)) (hR : R = semj a' c) (hN : dst.view.dmaCredit = amtA a)
    {hsc : dst.view.ref.isScScratch = false} {h1 : src.view.WordExact} {h2 : dst.view.WordExact}
    {h3 : DmaTarget.Typed .vmem (.dma R) (.remote (Dev.tc n : Thread nD τ) dst (.dma S) hsc)}
    (q : PosShare TreeShare) (fs : Buf (Elt F) (src.view.loc (c : Thread nD τ))) (fd : Buf (Elt F) (dst.view.loc (pr c r : Thread nD τ)))
    (l : List (Dev nD × CIx)) (hp1 : own src c q fs ⊢ xPay m c a (pr c r))
    (hp2 : own dst (pr c r) fullShare (dst.view.write (Elt F) fd (src.view.read (Elt F) fs) Finset.univ) ⊢ xPay m (pr c r) a' c) :
    iprop(records m K ∗ own src c q fs ∗ own dst (pr c r) fullShare fd ∗ due (F := F) c ((pr c r, some (a', c)) :: l) ∗ tk (F := F) c a a' r)
      ⊢ iprop(((cr (F := F) c a r ∗ due (F := F) c l) -∗ run c (k ⟨⟩) Q)
          -∗ run c (.op (.enqueueDma src (.remote (Dev.tc n : Thread nD τ) dst (.dma S) hsc) (.dma R) h1 h2 h3) k) Q) := by
  subst hn hS hR
  have hcn : c ≠ pr c r := fun h => pr_ne c r h.symm
  unfold due tk cr
  iintro ⟨#HR, Hs, Hd, ⟨%W, HO⟩, ⟨Ht1, Ht2⟩⟩ Hk
  iapply (Rounds.wp_send_pointsTo 𝒱₀ ER (sched m) (c : Thread nD τ) none (κ₁ := K (c, some (a, pr c r))) (κ₂ := K (pr c r, some (a', c)))
      (r₁ := 0) (r₂ := 0) (d₁ := 0) (d₂ := 0) (fd := fd) (fs := fs) (q := q)
      (by rw [show (((c : Thread nD τ), SemLoc.dma (semj a (pr c r))) : GSem nD τ sig) = kcell (c, some (a, pr c r)) from rfl, duties_cell,
            show duty c (some (a, pr c r)) = {0} from if_neg (pr_ne c r)]; exact Finset.mem_singleton_self _)
      (by rw [show (((pr c r : Thread nD τ), SemLoc.dma (semj a' c)) : GSem nD τ sig) = kcell (pr c r, some (a', c)) from rfl, duties_cell,
            show duty (pr c r) (some (a', c)) = {0} from if_neg hcn]; exact Finset.mem_singleton_self _)
      () () (amtA a) (show dst.view.amount (.dma (semj a' c)) = amtA a from hN) (amount_cell m c (some (a, pr c r)) 0 0) ((amount_cell m (pr c r) (some (a', c)) 0 0).trans haa) (owe l)
      (by rw [← haa]; first | done | rfl) (W := W)
      (hp1.trans (Entails.of_eq (payload_cell m c (some (a, pr c r)) 0 0).symm))
      (hp2.trans (Entails.of_eq (payload_cell m (pr c r) (some (a', c)) 0 0).symm))) $$ [Hs Hd HO Ht1 Ht2]
  · isplitr; · iapply (records_inv m K (c, some (a, pr c r))); iexact HR
    isplitr; · iapply (records_inv m K (pr c r, some (a', c))); iexact HR
    isplitl [Hs]; · iexact Hs
    isplitl [Hd]; · iexact Hd
    isplitl [HO]; · iexact HO
    isplitl [Ht1]; · iexact Ht1
    isplitr; · iapply (records_reached m K (c, some (a, pr c r))); iexact HR
    isplitl [Ht2]; · iexact Ht2
    iapply (records_reached m K (pr c r, some (a', c))); iexact HR
  iintro ⟨Hc, HO⟩
  iapply Hk
  isplitl [Hc]; · iexact Hc
  iexists _; iexact HO

end Cert.KernelIdeal.Hand

end
-- ==== Proof.KernelIdeal.Moves.lean ====
/-
The copies and waits as the program writes them: its offsets, devices and semaphores come with the equations that say
which slot, device and semaphore they are.
-/
module

public import proofs.«01_k».proof.Proof.KernelIdeal.Steps

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : Dev nD × CIx → ℕ) (c : Dev nD)

/-! ## What a copy takes: its block, the partner's slot, its tokens -/

/-- For the copy of a block of `ksend` to the partner. -/
def goK (r : Fin 3) : sProp 𝕄 :=
  iprop(xPay m c 0 (pr c r) ∗ (∃ f, own (F := F) (slotVj krM c) (pr c r) fullShare f) ∗ tk (F := F) c 0 1 r)
/-- For the copy of a block of `vsend` to the partner. -/
def goV (r : Fin 3) : sProp 𝕄 :=
  iprop(xPay m c 2 (pr c r) ∗ (∃ f, own (F := F) (slotVj vrM c) (pr c r) fullShare f) ∗ tk (F := F) c 2 3 r)
/-- For the copy of a partial output to the partner. -/
def goP (r : Fin 3) : sProp 𝕄 :=
  iprop(xPay m c 4 (pr c r) ∗ (∃ f, own (F := F) (slotRj rsM c) (pr c r) fullShare f) ∗ tk (F := F) c 4 5 r)
/-- For the copy of the own reduced chunk to the partner. -/
def goA (r : Fin 3) : sProp 𝕄 :=
  iprop(xPay m c 6 (pr c r) ∗ (∃ f, own (F := F) (slotRj agM c) (pr c r) fullShare f) ∗ tk (F := F) c 6 7 r)

/-- The copy of a block of `ksend` to the partner's `krecv`. -/
theorem send_K {α : Type} {Q : α → sProp 𝕄} {k : PUnit → Prog (TpuEff nD τ sig (Elt F) Λ₀ .tc) α} (r : Fin 3) (l : List (Dev nD × CIx))
    {n : Dev nD} {o6 : Fin 4 → ℕ} {o5 : Fin 5 → ℕ} {o3 o4 : Fin 1 → ℕ} (hn : n = pr c r) (e6 : o6 = ![4 * (pr c r).val, 0, 0, 0]) (e5 : o5 = ![c.val, 0, 0, 0, 0])
    (e3 : o3 = ![(pr c r).val]) (e4 : o4 = ![c.val]) {i6 i5 i3 i4} {hsc h1 h2 h3} :
    iprop(records m K ∗ goK m c r ∗ due (F := F) c ((pr c r, some (1, c)) :: l))
      ⊢ iprop(((cr (F := F) c 0 r ∗ due (F := F) c l) -∗ run c (k ⟨⟩) Q)
          -∗ run c (.op (.enqueueDma (blkV ksM o6 i6) (.remote (Dev.tc n : Thread nD τ) (slotV krM o5 i5) (.dma (semAt cc0_scratch7 o3 i3)) hsc)
                (.dma (semAt cc0_scratch8 o4 i4)) h1 h2 h3) k) Q) := by
  subst e6 e5 e3 e4
  unfold goK
  iintro ⟨#HR, ⟨Hs, ⟨%f, Hd⟩, Ht⟩, HO⟩
  iapply (step_send m K c 0 1 r n hn rfl (blkVj ksM (pr c r)) (slotVj krM c) _ _ rfl rfl (cred_slotV_K _ _) fullShare (KSc m c) f l
    (Entails.refl _) (Entails.of_eq (copied_K m c (pr c r) f))) $$ [Hs Hd HO Ht]
  isplitr; · iexact HR
  isplitl [Hs]; · iapply (Entails.of_eq (show xPay m c 0 (pr c r) = own (blkVj ksM (pr c r)) c fullShare (KSc m c) from rfl)); iexact Hs
  isplitl [Hd]; · iexact Hd
  isplitl [HO]; · iexact HO
  iexact Ht

/-- The copy of a block of `vsend` to the partner's `vrecv`. -/
theorem send_V {α : Type} {Q : α → sProp 𝕄} {k : PUnit → Prog (TpuEff nD τ sig (Elt F) Λ₀ .tc) α} (r : Fin 3) (l : List (Dev nD × CIx))
    {n : Dev nD} {o6 : Fin 4 → ℕ} {o5 : Fin 5 → ℕ} {o3 o4 : Fin 1 → ℕ} (hn : n = pr c r) (e6 : o6 = ![4 * (pr c r).val, 0, 0, 0]) (e5 : o5 = ![c.val, 0, 0, 0, 0])
    (e3 : o3 = ![(pr c r).val]) (e4 : o4 = ![c.val]) {i6 i5 i3 i4} {hsc h1 h2 h3} :
    iprop(records m K ∗ goV m c r ∗ due (F := F) c ((pr c r, some (3, c)) :: l))
      ⊢ iprop(((cr (F := F) c 2 r ∗ due (F := F) c l) -∗ run c (k ⟨⟩) Q)
          -∗ run c (.op (.enqueueDma (blkV vsM o6 i6) (.remote (Dev.tc n : Thread nD τ) (slotV vrM o5 i5) (.dma (semAt cc0_scratch9 o3 i3)) hsc)
                (.dma (semAt cc0_scratch10 o4 i4)) h1 h2 h3) k) Q) := by
  subst e6 e5 e3 e4
  unfold goV
  iintro ⟨#HR, ⟨Hs, ⟨%f, Hd⟩, Ht⟩, HO⟩
  iapply (step_send m K c 2 3 r n hn rfl (blkVj vsM (pr c r)) (slotVj vrM c) _ _ rfl rfl (cred_slotV_V _ _) fullShare (VSc m c) f l
    (Entails.refl _) (Entails.of_eq (copied_V m c (pr c r) f))) $$ [Hs Hd HO Ht]
  isplitr; · iexact HR
  isplitl [Hs]; · iapply (Entails.of_eq (show xPay m c 2 (pr c r) = own (blkVj vsM (pr c r)) c fullShare (VSc m c) from rfl)); iexact Hs
  isplitl [Hd]; · iexact Hd
  isplitl [HO]; · iexact HO
  iexact Ht

/-- The copy of a partial output to the partner's `rsbuf`. -/
theorem send_P {α : Type} {Q : α → sProp 𝕄} {k : PUnit → Prog (TpuEff nD τ sig (Elt F) Λ₀ .tc) α} (r : Fin 3) (l : List (Dev nD × CIx))
    {n : Dev nD} {o6 o5 : Fin 4 → ℕ} {o3 o4 : Fin 1 → ℕ} (hn : n = pr c r) (e6 : o6 = ![(pr c r).val, 0, 0, 0]) (e5 : o5 = ![c.val, 0, 0, 0])
    (e3 : o3 = ![(pr c r).val]) (e4 : o4 = ![c.val]) {i6 i5 i3 i4} {hsc h1 h2 h3} :
    iprop(records m K ∗ goP m c r ∗ due (F := F) c ((pr c r, some (5, c)) :: l))
      ⊢ iprop(((cr (F := F) c 4 r ∗ due (F := F) c l) -∗ run c (k ⟨⟩) Q)
          -∗ run c (.op (.enqueueDma (slotR pcM o6 i6) (.remote (Dev.tc n : Thread nD τ) (slotR rsM o5 i5) (.dma (semAt cc0_scratch11 o3 i3)) hsc)
                (.dma (semAt cc0_scratch12 o4 i4)) h1 h2 h3) k) Q) := by
  subst e6 e5 e3 e4
  unfold goP
  iintro ⟨#HR, ⟨Hs, ⟨%f, Hd⟩, Ht⟩, HO⟩
  iapply (step_send m K c 4 5 r n hn rfl (slotRj pcM (pr c r)) (slotRj rsM c) _ _ rfl rfl (cred_slotR_R _ _) fullShare (PCc m c) f l
    (Entails.refl _) (Entails.of_eq (copied_P m c (pr c r) f))) $$ [Hs Hd HO Ht]
  isplitr; · iexact HR
  isplitl [Hs]; · iapply (Entails.of_eq (show xPay m c 4 (pr c r) = own (slotRj pcM (pr c r)) c fullShare (PCc m c) from rfl)); iexact Hs
  isplitl [Hd]; · iexact Hd
  isplitl [HO]; · iexact HO
  iexact Ht

/-- The copy of the own reduced chunk to the partner's `agbuf`. -/
theorem send_A {α : Type} {Q : α → sProp 𝕄} {k : PUnit → Prog (TpuEff nD τ sig (Elt F) Λ₀ .tc) α} (r : Fin 3) (l : List (Dev nD × CIx))
    {n : Dev nD} {o6 o5 : Fin 4 → ℕ} {o3 o4 : Fin 1 → ℕ} (hn : n = pr c r) (e6 : o6 = ![c.val, 0, 0, 0]) (e5 : o5 = ![c.val, 0, 0, 0])
    (e3 : o3 = ![(pr c r).val]) (e4 : o4 = ![c.val]) {i6 i5 i3 i4} {hsc h1 h2 h3} :
    iprop(records m K ∗ goA m c r ∗ due (F := F) c ((pr c r, some (7, c)) :: l))
      ⊢ iprop(((cr (F := F) c 6 r ∗ due (F := F) c l) -∗ run c (k ⟨⟩) Q)
          -∗ run c (.op (.enqueueDma (slotR agM o6 i6) (.remote (Dev.tc n : Thread nD τ) (slotR agM o5 i5) (.dma (semAt cc0_scratch13 o3 i3)) hsc)
                (.dma (semAt cc0_scratch14 o4 i4)) h1 h2 h3) k) Q) := by
  subst e6 e5 e3 e4
  unfold goA
  iintro ⟨#HR, ⟨Hs, ⟨%f, Hd⟩, Ht⟩, HO⟩
  iapply (step_send m K c 6 7 r n hn rfl (slotRj agM c) (slotRj agM c) _ _ rfl rfl (cred_slotR_A _ _) (quarter (pr c r)) (AGc m) f l
    (Entails.refl _) (Entails.of_eq (copied_A m c (pr c r) f))) $$ [Hs Hd HO Ht]
  isplitr; · iexact HR
  isplitl [Hs]; · iapply (Entails.of_eq (show xPay m c 6 (pr c r) = own (slotRj agM c) c (quarter (pr c r)) (AGc m) from rfl)); iexact Hs
  isplitl [Hd]; · iexact Hd
  isplitl [HO]; · iexact HO
  iexact Ht

/-- The end of a part. -/
theorem run_ret {α : Type} {Q : α → sProp 𝕄} (a : α) : Q a ⊢ run (F := F) c (.ret a) Q := by
  unfold run; rw [wp_ret]; iintro H; imodintro; iexact H

/-- The wait on slot `pr c r` of semaphore array `a`. -/
theorem wait_at (a : Fin 8) (r : Fin 3) (l : List (Dev nD × CIx)) (hl : ∀ x ∈ l, lvl (some (a, pr c r)) < lvl x.2)
    {α : Type} {Q : α → sProp 𝕄} {k : PUnit → Prog (TpuEff nD τ sig (Elt F) Λ₀ .tc) α}
    {A : DmaSems sig S4} {o3 : Fin 1 → ℕ} {i3} {s : Shape} {e : EltTy} {sp sp' : Space} {src : Memref sig .tc sp s e} {dst : Memref sig .tc sp' s e} {h1 h2}
    (hA : A = semA a) (e3 : o3 = ![(pr c r).val]) (hN : dst.view.dmaCredit = amtA a) :
    iprop(records m K ∗ levAts L lv ∗ cr (F := F) c a r ∗ due (F := F) c l ∗ pos (F := F) c a r 0)
      ⊢ iprop(((due (F := F) c l ∗ pos (F := F) c a r 1 ∗ xPay m c a (pr c r)) -∗ run c (k ⟨⟩) Q)
          -∗ run c (.op (.waitDma2 (semAt A o3 i3) src dst h1 h2) k) Q) := by
  subst hA e3
  exact step_wait m K c a r _ rfl src dst hN l hl

end Cert.KernelIdeal.Hand

end
-- ==== Proof.KernelIdeal.Bufs.lean ====
/-
The body's parts on the launch's own buffers, and the loads and stores on those buffers.
-/
module

public import proofs.«01_k».proof.Proof.KernelIdeal.Moves

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : Dev nD × CIx → ℕ) (c : Dev nD)

/-- A part of the body on the buffers and semaphores the launch passes it: the staged operands, the staged result, the
scratch buffers and semaphore arrays. -/
abbrev onBufs {β : Type 1} (p : (arg0 : Memref sig .tc .vmem S2x256x512 .f32) → (harg0 : arg0.IsWhole) → (arg1 : Memref sig .tc .vmem S512x256 .f32) → (harg1 : arg1.IsWhole) → (arg2
    : Memref sig .tc .vmem S2x256x16x64 .f32) → (harg2 : arg2.IsWhole) → (arg3 : Memref sig .tc .vmem S2x256x16x64 .f32) → (harg3 : arg3.IsWhole) → (arg4
    : Memref sig .tc .vmem S256x512 .f32) → (harg4 : arg4.IsWhole) → (arg5 : Memref sig .tc .vmem S2x256x512 .f32) → (harg5 : arg5.IsWhole) → (arg6 :
    Memref sig .tc .vmem S16x2x256x64 .bf16) → (harg6 : arg6.IsWhole) → (arg7 : Memref sig .tc .vmem S16x2x256x64 .bf16) → (harg7 : arg7.IsWhole) → (arg8
    : Memref sig .tc .vmem S4x4x2x256x64 .bf16) → (harg8 : arg8.IsWhole) → (arg9 : Memref sig .tc .vmem S4x4x2x256x64 .bf16) → (harg9 : arg9.IsWhole) →
    (arg10 : Memref sig .tc .vmem S4x2x64x512 .bf16) → (harg10 : arg10.IsWhole) → (arg11 : Memref sig .tc .vmem S4x2x64x512 .bf16) → (harg11 :
    arg11.IsWhole) → (arg12 : Memref sig .tc .vmem S4x2x64x512 .bf16) → (harg12 : arg12.IsWhole) → (arg13 : DmaSems sig S4) → (arg14 : DmaSems sig S4) →
    (arg15 : DmaSems sig S4) → (arg16 : DmaSems sig S4) → (arg17 : DmaSems sig S4) → (arg18 : DmaSems sig S4) → (arg19 : DmaSems sig S4) → (arg20 :
    DmaSems sig S4)  → β) : β :=
  p (Memref.whole cc0_stg0_0) (Memref.isWhole_whole _) (Memref.whole cc0_stg1_0) (Memref.isWhole_whole _) (Memref.whole cc0_stg2_0) (Memref.isWhole_whole
    _) (Memref.whole cc0_stg3_0) (Memref.isWhole_whole _) (Memref.whole cc0_stg4_0) (Memref.isWhole_whole _) (Memref.whole cc0_stg5_0)
    (Memref.isWhole_whole _) (Memref.whole cc0_scratch0) (Memref.isWhole_whole _) (Memref.whole cc0_scratch1) (Memref.isWhole_whole _) (Memref.whole
    cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) cc0_scratch7 cc0_scratch8 cc0_scratch9
    cc0_scratch10 cc0_scratch11 cc0_scratch12 cc0_scratch13 cc0_scratch14

/-- What device `c`'s buffer `b` holds. -/
abbrev bufHas (c : Dev nD) (b : Ref sig .tc) (f : Buf (Elt F) ((c : Thread nD τ).loc b)) : sProp 𝕄 := ((c : Thread nD τ).loc b) ↦{fullShare} f

/-- Reading the device's number. -/
theorem run_device {α : Type} {Q : α → sProp 𝕄} {k : Dev nD → Prog (TpuEff nD τ sig (Elt F) Λ₀ .tc) α} :
    run c (k c) Q ⊢ run c (.op .deviceId k) Q := by
  unfold run; rw [wp_deviceId]

/-- A load whose value is `v`. -/
theorem load_eq {α : Type} {Q : α → sProp 𝕄} {s : Shape} {e : EltTy} {M : Memref sig .tc .vmem s e} {r : LoadRect s} {hl}
    {k : (r.shape.Idx → Elt F e) → Prog (TpuEff nD τ sig (Elt F) Λ₀ .tc) α} {S : Finset (Idx (M.view.loc (c : Thread nD τ)))} {q : PosShare TreeShare}
    {f : Buf (Elt F) (M.view.loc (c : Thread nD τ))} {v : r.shape.Idx → Elt F e} (hS : M.view.setOn r.set ⊆ S) (hv : M.view.readAt (Elt F) r f = v) :
    (M.view.loc (c : Thread nD τ) ↦[S]{q} f : sProp 𝕄)
      ⊢ iprop(((M.view.loc (c : Thread nD τ) ↦[S]{q} f) -∗ run c (k v) Q) -∗ run c (.op (.load M r hl) k) Q) := by
  subst hv
  exact wp_load 𝒱₀ (c : Thread nD τ) none Set.univ hS

/-- A store that leaves `g`. -/
theorem store_eq {α : Type} {Q : α → sProp 𝕄} {s : Shape} {e : EltTy} {M : Memref sig .tc .vmem s e} {r : Rect s} {w : r.shape.Idx → Elt F e} {hx hm}
    {k : PUnit → Prog (TpuEff nD τ sig (Elt F) Λ₀ .tc) α} {S : Finset (Idx ((M.access r).loc (c : Thread nD τ)))}
    {f g : Buf (Elt F) ((M.access r).loc (c : Thread nD τ))} (hS : (M.access r).setOn Finset.univ ⊆ S)
    (hg : ((M.access r).loc (c : Thread nD τ) ↦[S]{fullShare} ((M.access r).write (Elt F) f w Finset.univ) : sProp 𝕄)
      = ((M.access r).loc (c : Thread nD τ) ↦[S]{fullShare} g)) :
    ((M.access r).loc (c : Thread nD τ) ↦[S]{fullShare} f : sProp 𝕄)
      ⊢ iprop((((M.access r).loc (c : Thread nD τ) ↦[S]{fullShare} g) -∗ run c (k ⟨⟩) Q) -∗ run c (.op (.store M r w Finset.univ hx hm) k) Q) := by
  rw [← hg]
  exact wp_store 𝒱₀ (c : Thread nD τ) none Set.univ hS

theorem zeros2 : (![0, 0] : Fin 2 → ℕ) = fun _ => 0 := by decide
theorem zeros3 : (![0, 0, 0] : Fin 3 → ℕ) = fun _ => 0 := by decide
theorem zeros4 : (![0, 0, 0, 0] : Fin 4 → ℕ) = fun _ => 0 := by decide

/-- One device's rows of one head and batch element, from the landed keys. -/
theorem load_kr {α : Type} {Q : α → sProp 𝕄} {s h b : ℕ} {hb hl}
    {k : Vec F S1x1x1x256x64 .bf16 → Prog (TpuEff nD τ sig (Elt F) Λ₀ .tc) α} (KR : TV F) :
    bufHas c cc0_scratch2 KR ⊢ iprop((bufHas c cc0_scratch2 KR -∗ run c (k (kAt KR s h b hb)) Q)
      -∗ run c (.op (.load krM (Rect.unit (s := S4x4x2x256x64) ![s, h, b, 0, 0] S1x1x1x256x64.size hb).toLoadRect hl) k) Q) :=
  load_eq c (M := krM) (Finset.subset_univ _) rfl
/-- The same from the landed values. -/
theorem load_vr {α : Type} {Q : α → sProp 𝕄} {s h b : ℕ} {hb hl}
    {k : Vec F S1x1x1x256x64 .bf16 → Prog (TpuEff nD τ sig (Elt F) Λ₀ .tc) α} (VR : TV F) :
    bufHas c cc0_scratch3 VR ⊢ iprop((bufHas c cc0_scratch3 VR -∗ run c (k (kAt VR s h b hb)) Q)
      -∗ run c (.op (.load vrM (Rect.unit (s := S4x4x2x256x64) ![s, h, b, 0, 0] S1x1x1x256x64.size hb).toLoadRect hl) k) Q) :=
  load_eq c (M := vrM) (Finset.subset_univ _) rfl

/-- A load from the shares of the result whose value is not used. -/
theorem load_pc {α : Type} {Q : α → sProp 𝕄} {o : Fin 4 → ℕ} {h hl}
    {k : Vec F S1x1x64x512 .bf16 → Prog (TpuEff nD τ sig (Elt F) Λ₀ .tc) α} (f : TR F) (k' : Prog (TpuEff nD τ sig (Elt F) Λ₀ .tc) α) (hk : ∀ v, k v = k') :
    bufHas c cc0_scratch4 f ⊢ iprop((bufHas c cc0_scratch4 f -∗ run c k' Q)
      -∗ run c (.op (.load pcM (Rect.unit (s := S4x2x64x512) o S1x1x64x512.size h).toLoadRect hl) k) Q) := by
  rw [← hk (pcM.view.readAt (Elt F) (Rect.unit (s := S4x2x64x512) o S1x1x64x512.size h).toLoadRect f)]
  exact load_eq c (M := pcM) (Finset.subset_univ _) rfl
/-- The store of row block `r` of batch element `b`. -/
theorem store_pc {α : Type} {Q : α → sProp 𝕄} {r b : ℕ} {h hx hm} {w : FVec F S1x1x64x512 .bf16}
    {k : PUnit → Prog (TpuEff nD τ sig (Elt F) Λ₀ .tc) α} (f : TR F) :
    bufHas c cc0_scratch4 f ⊢ iprop((bufHas c cc0_scratch4 (put f r b w) -∗ run c (k ⟨⟩) Q)
      -∗ run c (.op (.store pcM (Rect.unit (s := S4x2x64x512) ![r, b, 0, 0] S1x1x64x512.size h) w Finset.univ hx hm) k) Q) :=
  store_eq c (M := pcM) (r := Rect.unit (s := S4x2x64x512) ![r, b, 0, 0] S1x1x64x512.size h) (S := Finset.univ) (f := f) (g := put f r b w)
    (Finset.subset_univ _) (by rw [stored_P f r b h w])

end Cert.KernelIdeal.Hand

end
-- ==== Proof.KernelIdeal.Heads.lean ====
/-
The attention of the four heads on the two batch elements, part by part: from the landed keys and values to the stored shares.
-/
module

public import proofs.«01_k».proof.Proof.KernelIdeal.Bufs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : Dev nD × CIx → ℕ) (c : Dev nD)

section Heads

variable (q0 q1 : FVec F S256x256 .bf16) (KR VR : TV F) (wo : Vec F S256x512 .f32) (f : TR F)

/-- Batch element 0: the end of head 0, the keys of head 1. -/
theorem part10 {Q : _ → sProp 𝕄}  :
    iprop(bufHas c cc0_scratch2 KR ∗ bufHas c cc0_scratch3 VR)
      ⊢ iprop(((bufHas c cc0_scratch2 KR ∗ bufHas c cc0_scratch3 VR) -∗ Q ⟨o289 q0 KR VR, k0_pay20 q0, o292 KR, o294 KR, o296 KR⟩)
          -∗ run c (onBufs (k0_part10 (F := F)) q0 mask (k0_pay16 q0) (o264 KR) (o266 VR) (kAt VR 1 0 0 (by decide))) Q) := by
  unfold o289 o292 o294 o296
  iintro ⟨HK, HV⟩ Hk
  unfold onBufs
  rw [k0_part10_eq_skeleton]
  unfold k0_part10_skel
  simp only [Prog.lift, Prog.bind_op, Prog.bind_ret, Prog.pure_eq_ret]
  iapply (load_vr c VR) $$ HV; iintro HV
  iapply (load_vr c VR) $$ HV; iintro HV
  iapply (load_kr c KR) $$ HK; iintro HK
  iapply (load_kr c KR) $$ HK; iintro HK
  iapply (load_kr c KR) $$ HK; iintro HK
  iapply run_ret
  iapply Hk
  iframe

/-- Batch element 0: the rest of head 1. -/
theorem part11 {Q : _ → sProp 𝕄}  :
    iprop(bufHas c cc0_scratch2 KR ∗ bufHas c cc0_scratch3 VR)
      ⊢ iprop(((bufHas c cc0_scratch2 KR ∗ bufHas c cc0_scratch3 VR) -∗ Q ⟨o324 q0 KR VR, k0_pay25 q0⟩)
          -∗ run c (onBufs (k0_part11 (F := F)) q0 mask (k0_pay20 q0) (o292 KR) (o294 KR) (o296 KR)) Q) := by
  unfold o324
  iintro ⟨HK, HV⟩ Hk
  unfold onBufs
  rw [k0_part11_eq_skeleton]
  unfold k0_part11_skel
  simp only [Prog.lift, Prog.bind_op, Prog.bind_ret, Prog.pure_eq_ret]
  iapply (load_kr c KR) $$ HK; iintro HK
  iapply (load_vr c VR) $$ HV; iintro HV
  iapply (load_vr c VR) $$ HV; iintro HV
  iapply (load_vr c VR) $$ HV; iintro HV
  iapply (load_vr c VR) $$ HV; iintro HV
  iapply run_ret
  iapply Hk
  iframe

/-- Batch element 0: the scores and values of head 2. -/
theorem part12 {Q : _ → sProp 𝕄}  :
    iprop(bufHas c cc0_scratch2 KR ∗ bufHas c cc0_scratch3 VR)
      ⊢ iprop(((bufHas c cc0_scratch2 KR ∗ bufHas c cc0_scratch3 VR) -∗ Q ⟨o343 VR, o344 q0 KR⟩)
          -∗ run c (onBufs (k0_part12 (F := F)) (k0_pay25 q0)) Q) := by
  unfold o343 o344
  iintro ⟨HK, HV⟩ Hk
  unfold onBufs
  rw [k0_part12_eq_skeleton]
  unfold k0_part12_skel
  simp only [Prog.lift, Prog.bind_op, Prog.bind_ret, Prog.pure_eq_ret]
  iapply (load_kr c KR) $$ HK; iintro HK
  iapply (load_kr c KR) $$ HK; iintro HK
  iapply (load_kr c KR) $$ HK; iintro HK
  iapply (load_kr c KR) $$ HK; iintro HK
  iapply (load_vr c VR) $$ HV; iintro HV
  iapply (load_vr c VR) $$ HV; iintro HV
  iapply (load_vr c VR) $$ HV; iintro HV
  iapply (load_vr c VR) $$ HV; iintro HV
  iapply run_ret
  iapply Hk
  iframe

/-- Batch element 0: the end of head 2, the keys of head 3. -/
theorem part13 {Q : _ → sProp 𝕄}  :
    iprop(bufHas c cc0_scratch2 KR ∗ bufHas c cc0_scratch3 VR)
      ⊢ iprop(((bufHas c cc0_scratch2 KR ∗ bufHas c cc0_scratch3 VR) -∗ Q ⟨o359 q0 KR VR, k0_pay29 q0, o369 KR, o371 VR⟩)
          -∗ run c (onBufs (k0_part13 (F := F)) q0 mask (o343 VR) (o344 q0 KR)) Q) := by
  unfold o359 o369 o371
  iintro ⟨HK, HV⟩ Hk
  unfold onBufs
  rw [k0_part13_eq_skeleton]
  unfold k0_part13_skel
  simp only [Prog.lift, Prog.bind_op, Prog.bind_ret, Prog.pure_eq_ret]
  iapply (load_kr c KR) $$ HK; iintro HK
  iapply (load_kr c KR) $$ HK; iintro HK
  iapply (load_kr c KR) $$ HK; iintro HK
  iapply (load_kr c KR) $$ HK; iintro HK
  iapply (load_vr c VR) $$ HV; iintro HV
  iapply run_ret
  iapply Hk
  iframe

/-- Batch element 0: the end of head 3; the share of the result, its row block 0 stored. -/
theorem part14 {Q : _ → sProp 𝕄}  :
    iprop(bufHas c cc0_scratch2 KR ∗ bufHas c cc0_scratch3 VR ∗ bufHas c cc0_scratch4 f)
      ⊢ iprop(((bufHas c cc0_scratch2 KR ∗ bufHas c cc0_scratch3 VR ∗ bufHas c cc0_scratch4 (put f 0 0 (o401 q0 KR VR wo))) -∗ Q ⟨o396 q0 KR VR wo, o403 q0 KR VR wo⟩)
          -∗ run c (onBufs (k0_part14 (F := F)) mask (k0_pay15 wo) (o289 q0 KR VR) (o324 q0 KR VR) (o359 q0 KR VR) (k0_pay29 q0) (o369 KR) (o371 VR)) Q) := by
  unfold o396 o403 o401
  iintro ⟨HK, HV, HP⟩ Hk
  unfold onBufs
  rw [k0_part14_eq_skeleton]
  unfold k0_part14_skel
  simp only [Prog.lift, Prog.bind_op, Prog.bind_ret, Prog.pure_eq_ret]
  iapply (load_vr c VR) $$ HV; iintro HV
  iapply (load_vr c VR) $$ HV; iintro HV
  iapply (load_vr c VR) $$ HV; iintro HV
  iapply (load_pc c _ _ fun _ => rfl) $$ HP; iintro HP
  iapply (store_pc c _) $$ HP; iintro HP
  iapply run_ret
  iapply Hk
  iframe

/-- Batch element 0: row blocks 1, 2, 3 stored. Batch element 1: the keys of head 0. -/
theorem part15 {Q : _ → sProp 𝕄}  :
    iprop(bufHas c cc0_scratch2 KR ∗ bufHas c cc0_scratch3 VR ∗ bufHas c cc0_scratch4 f)
      ⊢ iprop(((bufHas c cc0_scratch2 KR ∗ bufHas c cc0_scratch3 VR ∗ bufHas c cc0_scratch4 (put (put (put f 1 0 (k0_pay35 (o403 q0 KR VR wo))) 2 0 (k0_pay36 (o396 q0 KR VR wo))) 3 0 (k0_pay37 (o396 q0 KR VR wo)))) -∗ Q ⟨k0_pay38 q1, o426 KR, kAt VR 0 0 1 (by decide)⟩)
          -∗ run c (onBufs (k0_part15 (F := F)) q1 (o396 q0 KR VR wo) (o403 q0 KR VR wo)) Q) := by
  unfold o426
  iintro ⟨HK, HV, HP⟩ Hk
  unfold onBufs
  rw [k0_part15_eq_skeleton]
  unfold k0_part15_skel
  simp only [Prog.lift, Prog.bind_op, Prog.bind_ret, Prog.pure_eq_ret]
  iapply (load_pc c _ _ fun _ => rfl) $$ HP; iintro HP
  iapply (store_pc c _) $$ HP; iintro HP
  iapply (load_pc c _ _ fun _ => rfl) $$ HP; iintro HP
  iapply (store_pc c _) $$ HP; iintro HP
  iapply (load_pc c _ _ fun _ => rfl) $$ HP; iintro HP
  iapply (store_pc c _) $$ HP; iintro HP
  iapply (load_kr c KR) $$ HK; iintro HK
  iapply (load_kr c KR) $$ HK; iintro HK
  iapply (load_kr c KR) $$ HK; iintro HK
  iapply (load_kr c KR) $$ HK; iintro HK
  iapply (load_vr c VR) $$ HV; iintro HV
  iapply run_ret
  iapply Hk
  iframe

/-- Batch element 1: the rest of head 0, keys of head 1. -/
theorem part16 {Q : _ → sProp 𝕄}  :
    iprop(bufHas c cc0_scratch2 KR ∗ bufHas c cc0_scratch3 VR)
      ⊢ iprop(((bufHas c cc0_scratch2 KR ∗ bufHas c cc0_scratch3 VR) -∗ Q ⟨o451 q1 KR VR, k0_pay41 q1, o454 KR, o456 KR⟩)
          -∗ run c (onBufs (k0_part16 (F := F)) q1 mask (k0_pay38 q1) (o426 KR) (kAt VR 0 0 1 (by decide))) Q) := by
  unfold o451 o454 o456
  iintro ⟨HK, HV⟩ Hk
  unfold onBufs
  rw [k0_part16_eq_skeleton]
  unfold k0_part16_skel
  simp only [Prog.lift, Prog.bind_op, Prog.bind_ret, Prog.pure_eq_ret]
  iapply (load_vr c VR) $$ HV; iintro HV
  iapply (load_vr c VR) $$ HV; iintro HV
  iapply (load_vr c VR) $$ HV; iintro HV
  iapply (load_kr c KR) $$ HK; iintro HK
  iapply (load_kr c KR) $$ HK; iintro HK
  iapply run_ret
  iapply Hk
  iframe

/-- Batch element 1: the scores and values of head 1. -/
theorem part17 {Q : _ → sProp 𝕄}  :
    iprop(bufHas c cc0_scratch2 KR ∗ bufHas c cc0_scratch3 VR)
      ⊢ iprop(((bufHas c cc0_scratch2 KR ∗ bufHas c cc0_scratch3 VR) -∗ Q ⟨o470 VR, o480 q1 KR, o481 q1 KR⟩)
          -∗ run c (onBufs (k0_part17 (F := F)) mask (k0_pay41 q1) (o454 KR) (o456 KR)) Q) := by
  unfold o470 o480 o481
  iintro ⟨HK, HV⟩ Hk
  unfold onBufs
  rw [k0_part17_eq_skeleton]
  unfold k0_part17_skel
  simp only [Prog.lift, Prog.bind_op, Prog.bind_ret, Prog.pure_eq_ret]
  iapply (load_kr c KR) $$ HK; iintro HK
  iapply (load_kr c KR) $$ HK; iintro HK
  iapply (load_vr c VR) $$ HV; iintro HV
  iapply (load_vr c VR) $$ HV; iintro HV
  iapply (load_vr c VR) $$ HV; iintro HV
  iapply (load_vr c VR) $$ HV; iintro HV
  iapply run_ret
  iapply Hk
  iframe

/-- Batch element 1: the end of head 1, keys and values of head 2. -/
theorem part18 {Q : _ → sProp 𝕄}  :
    iprop(bufHas c cc0_scratch2 KR ∗ bufHas c cc0_scratch3 VR)
      ⊢ iprop(((bufHas c cc0_scratch2 KR ∗ bufHas c cc0_scratch3 VR) -∗ Q ⟨o486 q1 KR VR, k0_pay48 q1, o496 KR, o498 VR, o500 VR, o502 VR⟩)
          -∗ run c (onBufs (k0_part18 (F := F)) q1 (o470 VR) (o480 q1 KR) (o481 q1 KR)) Q) := by
  unfold o486 o496 o498 o500 o502
  iintro ⟨HK, HV⟩ Hk
  unfold onBufs
  rw [k0_part18_eq_skeleton]
  unfold k0_part18_skel
  simp only [Prog.lift, Prog.bind_op, Prog.bind_ret, Prog.pure_eq_ret]
  iapply (load_kr c KR) $$ HK; iintro HK
  iapply (load_kr c KR) $$ HK; iintro HK
  iapply (load_kr c KR) $$ HK; iintro HK
  iapply (load_kr c KR) $$ HK; iintro HK
  iapply (load_vr c VR) $$ HV; iintro HV
  iapply (load_vr c VR) $$ HV; iintro HV
  iapply (load_vr c VR) $$ HV; iintro HV
  iapply run_ret
  iapply Hk
  iframe

/-- Batch element 1: the end of head 2, the keys of head 3. -/
theorem part19 {Q : _ → sProp 𝕄}  :
    iprop(bufHas c cc0_scratch2 KR ∗ bufHas c cc0_scratch3 VR)
      ⊢ iprop(((bufHas c cc0_scratch2 KR ∗ bufHas c cc0_scratch3 VR) -∗ Q ⟨o521 q1 KR VR, k0_pay54 q1, o531 KR⟩)
          -∗ run c (onBufs (k0_part19 (F := F)) q1 mask (k0_pay48 q1) (o496 KR) (o498 VR) (o500 VR) (o502 VR)) Q) := by
  unfold o521 o531
  iintro ⟨HK, HV⟩ Hk
  unfold onBufs
  rw [k0_part19_eq_skeleton]
  unfold k0_part19_skel
  simp only [Prog.lift, Prog.bind_op, Prog.bind_ret, Prog.pure_eq_ret]
  iapply (load_vr c VR) $$ HV; iintro HV
  iapply (load_kr c KR) $$ HK; iintro HK
  iapply (load_kr c KR) $$ HK; iintro HK
  iapply (load_kr c KR) $$ HK; iintro HK
  iapply (load_kr c KR) $$ HK; iintro HK
  iapply run_ret
  iapply Hk
  iframe

/-- Batch element 1: the end of head 3; the share of the result. -/
theorem part20 {Q : _ → sProp 𝕄}  :
    iprop(bufHas c cc0_scratch2 KR ∗ bufHas c cc0_scratch3 VR ∗ bufHas c cc0_scratch4 f)
      ⊢ iprop(((bufHas c cc0_scratch2 KR ∗ bufHas c cc0_scratch3 VR ∗ bufHas c cc0_scratch4 f) -∗ Q ⟨o558 q1 KR VR wo, o563 q1 KR VR wo⟩)
          -∗ run c (onBufs (k0_part20 (F := F)) mask (k0_pay15 wo) (o451 q1 KR VR) (o486 q1 KR VR) (o521 q1 KR VR) (k0_pay54 q1) (o531 KR)) Q) := by
  unfold o558 o563
  iintro ⟨HK, HV, HP⟩ Hk
  unfold onBufs
  rw [k0_part20_eq_skeleton]
  unfold k0_part20_skel
  simp only [Prog.lift, Prog.bind_op, Prog.bind_ret, Prog.pure_eq_ret]
  iapply (load_vr c VR) $$ HV; iintro HV
  iapply (load_vr c VR) $$ HV; iintro HV
  iapply (load_vr c VR) $$ HV; iintro HV
  iapply (load_vr c VR) $$ HV; iintro HV
  iapply (load_pc c _ _ fun _ => rfl) $$ HP; iintro HP
  iapply run_ret
  iapply Hk
  iframe

end Heads

end Cert.KernelIdeal.Hand

end
-- ==== Proof.KernelIdeal.Exchange.lean ====
/-
The body before the heads: the barrier, the exchange of keys and values, the queries and the mask.
-/
module

public import proofs.«01_k».proof.Proof.KernelIdeal.Bufs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : Dev nD × CIx → ℕ) (c : Dev nD)

/-! ## The order of the waits -/

theorem above3 : ∀ x ∈ dues3 c, 3 < lvl x.2 := by
  intro x hx
  simp only [dues3, List.mem_cons, List.not_mem_nil, or_false] at hx
  rcases hx with rfl | rfl | rfl <;> exact (by decide : 3 < 4)
theorem above2 : ∀ x ∈ dues2 c, 2 < lvl x.2 := by
  intro x hx
  simp only [dues2, List.mem_cons] at hx
  rcases hx with rfl | rfl | rfl | hx
  · exact (by decide : 2 < 3)
  · exact (by decide : 2 < 3)
  · exact (by decide : 2 < 3)
  exact lt_trans (by decide) (above3 c x hx)
theorem above1 : ∀ x ∈ dues1 c, 1 < lvl x.2 := by
  intro x hx
  simp only [dues1, List.mem_cons] at hx
  rcases hx with rfl | rfl | rfl | rfl | rfl | rfl | hx
  iterate 6 · exact (by decide : 1 < 2)
  exact lt_trans (by decide) (above2 c x hx)
theorem above0 (k : CIx) : ∀ x ∈ ([] : List (Dev nD × CIx)), lvl k < lvl x.2 := fun x hx => absurd hx (List.not_mem_nil)

/-! ## What an access of a slot reaches -/

section Reach
variable (MV : Memref sig .tc .vmem S4x4x2x256x64 .bf16) (MR : Memref sig .tc .vmem S4x2x64x512 .bf16) (j : Fin 4)

theorem reach_loadV {o : Fin 5 → ℕ} {h} (e : o = ![j.val, 0, 0, 0, 0]) :
    MV.view.setOn (Rect.unit (s := S4x4x2x256x64) o S1x4x2x256x64.size h).toLoadRect.set ⊆ (slotVj MV j).view.set := by
  subst e; rw [slotV_set]; exact (View.set_slice _ _).ge
theorem reach_storeV {o : Fin 5 → ℕ} {h} (e : o = ![j.val, 0, 0, 0, 0]) :
    (MV.access (Rect.unit (s := S4x4x2x256x64) o S1x4x2x256x64.size h)).setOn Finset.univ ⊆ (slotVj MV j).view.set := by
  subst e; rw [slotV_set, View.setOn_univ]
theorem reach_loadR {o : Fin 4 → ℕ} {h} (e : o = ![j.val, 0, 0, 0]) :
    MR.view.setOn (Rect.unit (s := S4x2x64x512) o S1x2x64x512.size h).toLoadRect.set ⊆ (slotRj MR j).view.set := by
  subst e; rw [slotR_set]; exact (View.set_slice _ _).ge
theorem reach_storeR {o : Fin 4 → ℕ} {h} (e : o = ![j.val, 0, 0, 0]) :
    (MR.access (Rect.unit (s := S4x2x64x512) o S1x2x64x512.size h)).setOn Finset.univ ⊆ (slotRj MR j).view.set := by
  subst e; rw [slotR_set, View.setOn_univ]

end Reach

/-! ## The send buffers and the own landing slot -/

/-- The own landing slot of K stored from the send buffer. -/
theorem store_slotK {α : Type} {Q : α → sProp 𝕄} {o2 : Fin 5 → ℕ} {o1 : Fin 4 → ℕ} {h2 h1 hx hm} {k : PUnit → Prog (TpuEff nD τ sig (Elt F) Λ₀ .tc) α}
    (e2 : o2 = ![c.val, 0, 0, 0, 0]) (e1 : o1 = ![4 * c.val, 0, 0, 0]) (f : TV F) :
    own (slotVj krM c) c fullShare f ⊢ iprop((own (slotVj krM c) c fullShare (KRc m c) -∗ run c (k ⟨⟩) Q)
      -∗ run c (.op (.store krM (Rect.unit (s := S4x4x2x256x64) o2 S1x4x2x256x64.size h2)
        (k0_pay5 (ksM.view.readAt (Elt F) (Rect.unit (s := S16x2x256x64) o1 S4x2x256x64.size h1).toLoadRect (KSc m c))) Finset.univ hx hm) k) Q) :=
  store_eq c (M := krM) (r := Rect.unit (s := S4x4x2x256x64) o2 S1x4x2x256x64.size h2) (S := (slotVj krM c).view.set) (f := f) (g := KRc m c)
    (reach_storeV krM c e2) (stored_K m c o2 h2 e2 o1 h1 e1 f)
/-- A load from the send buffer of K. -/
theorem load_ks {α : Type} {Q : α → sProp 𝕄} {r : LoadRect S16x2x256x64} {hl} {k : (r.shape.Idx → Elt F .bf16) → Prog (TpuEff nD τ sig (Elt F) Λ₀ .tc) α} (f : TS F) :
    bufHas c cc0_scratch0 f ⊢ iprop((bufHas c cc0_scratch0 f -∗ run c (k (ksM.view.readAt (Elt F) r f)) Q) -∗ run c (.op (.load ksM r hl) k) Q) :=
  load_eq c (M := ksM) (Finset.subset_univ _) rfl
/-- The own landing slot of V stored from the send buffer. -/
theorem store_slotV {α : Type} {Q : α → sProp 𝕄} {o2 : Fin 5 → ℕ} {o1 : Fin 4 → ℕ} {h2 h1 hx hm} {k : PUnit → Prog (TpuEff nD τ sig (Elt F) Λ₀ .tc) α}
    (e2 : o2 = ![c.val, 0, 0, 0, 0]) (e1 : o1 = ![4 * c.val, 0, 0, 0]) (f : TV F) :
    own (slotVj vrM c) c fullShare f ⊢ iprop((own (slotVj vrM c) c fullShare (VRc m c) -∗ run c (k ⟨⟩) Q)
      -∗ run c (.op (.store vrM (Rect.unit (s := S4x4x2x256x64) o2 S1x4x2x256x64.size h2)
        (k0_pay6 (vsM.view.readAt (Elt F) (Rect.unit (s := S16x2x256x64) o1 S4x2x256x64.size h1).toLoadRect (VSc m c))) Finset.univ hx hm) k) Q) :=
  store_eq c (M := vrM) (r := Rect.unit (s := S4x4x2x256x64) o2 S1x4x2x256x64.size h2) (S := (slotVj vrM c).view.set) (f := f) (g := VRc m c)
    (reach_storeV vrM c e2) (stored_V m c o2 h2 e2 o1 h1 e1 f)
/-- A load from the send buffer of V. -/
theorem load_vs {α : Type} {Q : α → sProp 𝕄} {r : LoadRect S16x2x256x64} {hl} {k : (r.shape.Idx → Elt F .bf16) → Prog (TpuEff nD τ sig (Elt F) Λ₀ .tc) α} (f : TS F) :
    bufHas c cc0_scratch1 f ⊢ iprop((bufHas c cc0_scratch1 f -∗ run c (k (vsM.view.readAt (Elt F) r f)) Q) -∗ run c (.op (.load vsM r hl) k) Q) :=
  load_eq c (M := vsM) (Finset.subset_univ _) rfl
/-- A load from one landing slot. -/
theorem load_slotV {α : Type} {Q : α → sProp 𝕄} (M : Memref sig .tc .vmem S4x4x2x256x64 .bf16) (j : Fin 4) {o : Fin 5 → ℕ} {h hl}
    {k : Vec F S1x4x2x256x64 .bf16 → Prog (TpuEff nD τ sig (Elt F) Λ₀ .tc) α} (e : o = ![j.val, 0, 0, 0, 0]) (f : Buf (Elt F) ((slotVj M j).view.loc (c : Thread nD τ))) :
    own (slotVj M j) c fullShare f ⊢ iprop((own (slotVj M j) c fullShare f
        -∗ run c (k (M.view.readAt (Elt F) (Rect.unit (s := S4x4x2x256x64) o S1x4x2x256x64.size h).toLoadRect f)) Q)
      -∗ run c (.op (.load M (Rect.unit (s := S4x4x2x256x64) o S1x4x2x256x64.size h).toLoadRect hl) k) Q) :=
  load_eq c (M := M) (reach_loadV M j e) rfl

/-! ## Storing a whole buffer -/

/-- The send buffer of the keys stored whole. -/
theorem store_ks {α : Type} {Q : α → sProp 𝕄} {h hx hm} {k : PUnit → Prog (TpuEff nD τ sig (Elt F) Λ₀ .tc) α} (f w : TS F) :
    bufHas c cc0_scratch0 f ⊢ iprop((bufHas c cc0_scratch0 w -∗ run c (k ⟨⟩) Q)
      -∗ run c (.op (.store ksM (Rect.unit (s := S16x2x256x64) ![0, 0, 0, 0] S16x2x256x64.size h) w Finset.univ hx hm) k) Q) :=
  store_eq c (M := ksM) (r := Rect.unit (s := S16x2x256x64) ![0, 0, 0, 0] S16x2x256x64.size h) (S := Finset.univ) (f := f) (g := w)
    (Finset.subset_univ _) (by
      have e : (ksM.access (Rect.unit (s := S16x2x256x64) ![0, 0, 0, 0] S16x2x256x64.size h)).write (Elt F) f w Finset.univ = w :=
        Memref.write_access_unit_zero_univ (Elt F) cc0_scratch0 zeros4 h f w
      rw [e])
/-- The send buffer of the values stored whole. -/
theorem store_vs {α : Type} {Q : α → sProp 𝕄} {h hx hm} {k : PUnit → Prog (TpuEff nD τ sig (Elt F) Λ₀ .tc) α} (f w : TS F) :
    bufHas c cc0_scratch1 f ⊢ iprop((bufHas c cc0_scratch1 w -∗ run c (k ⟨⟩) Q)
      -∗ run c (.op (.store vsM (Rect.unit (s := S16x2x256x64) ![0, 0, 0, 0] S16x2x256x64.size h) w Finset.univ hx hm) k) Q) :=
  store_eq c (M := vsM) (r := Rect.unit (s := S16x2x256x64) ![0, 0, 0, 0] S16x2x256x64.size h) (S := Finset.univ) (f := f) (g := w)
    (Finset.subset_univ _) (by
      have e : (vsM.access (Rect.unit (s := S16x2x256x64) ![0, 0, 0, 0] S16x2x256x64.size h)).write (Elt F) f w Finset.univ = w :=
        Memref.write_access_unit_zero_univ (Elt F) cc0_scratch1 zeros4 h f w
      rw [e])

/-! ## The landing buffers whole -/

theorem parts_K' : iprop(own (slotVj krM c) c fullShare (KRc m c) ∗ xPay m c 1 (pr c 0) ∗ xPay m c 1 (pr c 1) ∗ xPay m c 1 (pr c 2))
    = bufHas c cc0_scratch2 (KRc m c) := (parts_KR c fullShare (KRc m c)).symm
theorem parts_V' : iprop(own (slotVj vrM c) c fullShare (VRc m c) ∗ xPay m c 3 (pr c 0) ∗ xPay m c 3 (pr c 1) ∗ xPay m c 3 (pr c 2))
    = bufHas c cc0_scratch3 (VRc m c) := (parts_VR c fullShare (VRc m c)).symm

/-! ## The parts before the heads -/

/-- The device's number modulo four, as the program computes it. -/
abbrev num (c : Dev nD) : BitVec 32 := Scalar.remsi (Scalar.divsi (Dev.word c) 1#32) 4#32
/-- The device `r` further on, as the program computes it. -/
abbrev next (c : Dev nD) (r : BitVec 32) : BitVec 32 := Scalar.remsi (Scalar.addi (num c) r) 4#32

/-- The barrier, and the staged keys and values read. -/
theorem part1 {Q : _ → sProp 𝕄} :
    iprop(records m K ∗ levAts L lv ∗ due (F := F) c (dues c)
        ∗ (dutyTok ER (kcell (pr c 0, none)) 0 (rv 0) ∗ landing (F := F) c (pr c 0))
        ∗ (dutyTok ER (kcell (pr c 1, none)) 0 (rv 1) ∗ landing (F := F) c (pr c 1))
        ∗ (dutyTok ER (kcell (pr c 2, none)) 0 (rv 2) ∗ landing (F := F) c (pr c 2))
        ∗ cred (tallyAt (kcell (c, none)) () 3) ∗ atPos ER (kcell (c, none)) 0 ∅ 0
        ∗ bufHas c cc0_stg2_0 (stg2 m c) ∗ bufHas c cc0_stg3_0 (stg3 m c))
      ⊢ iprop(((due (F := F) c (dues1 c) ∗ atPos ER (kcell (c, none)) 1 ∅ 0
            ∗ landing (F := F) (pr c 0) c ∗ landing (F := F) (pr c 1) c ∗ landing (F := F) (pr c 2) c
            ∗ bufHas c cc0_stg2_0 (stg2 m c) ∗ bufHas c cc0_stg3_0 (stg3 m c))
            -∗ Q ⟨c, num c, k0_pay1 (stg2 m c), k0_pay2 (stg3 m c)⟩)
          -∗ run c (onBufs (k0_part1 (F := F))) Q) := by
  iintro ⟨#HR, #HL, HO, ⟨T0, G0⟩, ⟨T1, G1⟩, ⟨T2, G2⟩, HC, HP, H2, H3⟩ Hk
  unfold onBufs
  rw [k0_part1_eq_skeleton]
  unfold k0_part1_skel
  simp only [semSignalWord, semWaitWord, Prog.lift, Prog.bind_op, Prog.bind_ret, Prog.pure_eq_ret]
  iapply run_device
  unfold dues
  iapply (step_signal m K c 0 _ (Fin.ext (k0_dev1_eq c)) _ rfl _) $$ [HO T0 G0]
  · iframe; iexact HR
  iintro HO
  iapply (step_signal m K c 1 _ (Fin.ext (k0_dev2_eq c)) _ rfl _) $$ [HO T1 G1]
  · iframe; iexact HR
  iintro HO
  iapply (step_signal m K c 2 _ (Fin.ext (k0_dev3_eq c)) _ rfl _) $$ [HO T2 G2]
  · iframe; iexact HR
  iintro HO
  iapply (step_barrier m K c _ rfl _ (above1 c)) $$ [HO HC HP]
  · iframe; isplitr
    · iexact HR
    iexact HL
  iintro ⟨HO, HP, G0, G1, G2⟩
  iapply (load_eq c (Finset.subset_univ _) (Memref.readAt_unit_zero (Elt F) cc0_stg2_0 zeros4 _ (stg2 m c))) $$ H2; iintro H2
  iapply (load_eq c (Finset.subset_univ _) (Memref.readAt_unit_zero (Elt F) cc0_stg3_0 zeros4 _ (stg3 m c))) $$ H3; iintro H3
  iapply run_ret
  iapply Hk
  iframe

/-- The keys and values in the send buffers, and the own heads in the own landing slot. -/
theorem part2 {Q : _ → sProp 𝕄} :
    iprop((∃ f, bufHas (F := F) c cc0_scratch0 f) ∗ (∃ f, bufHas (F := F) c cc0_scratch1 f)
        ∗ (∃ f, own (F := F) (slotVj krM c) c fullShare f) ∗ (∃ f, own (F := F) (slotVj vrM c) c fullShare f))
      ⊢ iprop(((bufHas c cc0_scratch0 (KSc m c) ∗ bufHas c cc0_scratch1 (VSc m c)
            ∗ own (slotVj krM c) c fullShare (KRc m c) ∗ own (slotVj vrM c) c fullShare (VRc m c))
            -∗ Q (next c 1#32))
          -∗ run c (onBufs (k0_part2 (F := F)) c (num c) (k0_pay1 (stg2 m c)) (k0_pay2 (stg3 m c))) Q) := by
  iintro ⟨⟨%f0, H0⟩, ⟨%f1, H1⟩, ⟨%f2, H2⟩, ⟨%f3, H3⟩⟩ Hk
  unfold onBufs
  rw [k0_part2_eq_skeleton]
  unfold k0_part2_skel
  simp only [Prog.lift, Prog.bind_op, Prog.bind_ret, Prog.pure_eq_ret]
  iapply (load_ks c _) $$ H0; iintro H0
  iapply (store_ks c f0 (KSc m c)) $$ H0; iintro H0
  iapply (load_vs c _) $$ H1; iintro H1
  iapply (store_vs c f1 (VSc m c)) $$ H1; iintro H1
  iapply (load_ks c _) $$ H0; iintro H0
  iapply (load_slotV c krM c (k0_off2_eq c) _) $$ H2; iintro H2
  iapply (store_slotK m c (k0_off2_eq c) (k0_off1_eq c) _) $$ H2; iintro H2
  iapply (load_vs c _) $$ H1; iintro H1
  iapply (load_slotV c vrM c (k0_off2_eq c) _) $$ H3; iintro H3
  iapply (store_slotV m c (k0_off2_eq c) (k0_off1_eq c) _) $$ H3; iintro H3
  iapply run_ret
  iapply Hk
  iframe

/-- Copies of K and V to the first partner, K to the second. -/
theorem part3 {Q : _ → sProp 𝕄} (v2 v47 : BitVec 32) (l : List (Dev nD × CIx)) :
    iprop(records m K ∗ due (F := F) c ((pr c 0, some (1, c)) :: (pr c 0, some (3, c)) :: (pr c 1, some (1, c)) :: l)
        ∗ goK m c 0 ∗ goV m c 0 ∗ goK m c 1)
      ⊢ iprop(((due (F := F) c l ∗ cr (F := F) c 0 0 ∗ cr (F := F) c 2 0 ∗ cr (F := F) c 0 1)
            -∗ Q ⟨Scalar.remsi (Scalar.addi v2 2#32) 4#32, 1#32⟩)
          -∗ run c (onBufs (k0_part3 (F := F)) c v2 v47) Q) := by
  iintro ⟨#HR, HO, H1, H2, H3⟩ Hk
  unfold onBufs
  rw [k0_part3_eq_skeleton]
  unfold k0_part3_skel
  simp only [Prog.lift, Prog.bind_op, Prog.bind_ret, Prog.pure_eq_ret]
  iapply (send_K m K c 0 _ (Fin.ext (k0_dev4_eq c)) (k0_off6_eq c 0) (k0_off5_eq c) (k0_off3_eq c 0) (k0_off4_eq c)) $$ [HO H1]
  · iframe; iexact HR
  iintro ⟨C1, HO⟩
  iapply (send_V m K c 0 _ (Fin.ext (k0_dev5_eq c)) (k0_off6_eq c 0) (k0_off5_eq c) (k0_off3_eq c 0) (k0_off4_eq c)) $$ [HO H2]
  · iframe; iexact HR
  iintro ⟨C2, HO⟩
  iapply (send_K m K c 1 _ (Fin.ext (k0_dev6_eq c)) (k0_off6_eq c 1) (k0_off5_eq c) (k0_off3_eq c 1) (k0_off4_eq c)) $$ [HO H3]
  · iframe; iexact HR
  iintro ⟨C3, HO⟩
  iapply run_ret
  iapply Hk
  iframe

/-- V to the second partner, K to the third. -/
theorem part4 {Q : _ → sProp 𝕄} (v2 v69 k1 : BitVec 32) (l : List (Dev nD × CIx)) :
    iprop(records m K ∗ due (F := F) c ((pr c 1, some (3, c)) :: (pr c 2, some (1, c)) :: l) ∗ goV m c 1 ∗ goK m c 2)
      ⊢ iprop(((due (F := F) c l ∗ cr (F := F) c 2 1 ∗ cr (F := F) c 0 2) -∗ Q ⟨⟩)
          -∗ run c (onBufs (k0_part4 (F := F)) c v2 v69 k1) Q) := by
  iintro ⟨#HR, HO, H1, H2⟩ Hk
  unfold onBufs
  rw [k0_part4_eq_skeleton]
  unfold k0_part4_skel
  simp only [Prog.lift, Prog.bind_op, Prog.bind_ret, Prog.pure_eq_ret]
  iapply (send_V m K c 1 _ (Fin.ext (k0_dev7_eq c)) (k0_off6_eq c 1) (k0_off5_eq c) (k0_off3_eq c 1) (k0_off4_eq c)) $$ [HO H1]
  · iframe; iexact HR
  iintro ⟨C1, HO⟩
  iapply (send_K m K c 2 _ (Fin.ext (k0_dev8_eq c)) (k0_off6_eq c 2) (k0_off5_eq c) (k0_off3_eq c 2) (k0_off4_eq c)) $$ [HO H2]
  · iframe; iexact HR
  iintro ⟨C2, HO⟩
  iapply run_ret
  iapply Hk
  iframe

/-- V to the third partner; the queries of the two batch elements. -/
theorem part5 {Q : _ → sProp 𝕄} (l : List (Dev nD × CIx)) :
    iprop(records m K ∗ due (F := F) c ((pr c 2, some (3, c)) :: l) ∗ goV m c 2 ∗ bufHas c cc0_stg0_0 (stg0 m c) ∗ bufHas c cc0_stg1_0 (stg1 m c))
      ⊢ iprop(((due (F := F) c l ∗ cr (F := F) c 2 2 ∗ bufHas c cc0_stg0_0 (stg0 m c) ∗ bufHas c cc0_stg1_0 (stg1 m c))
            -∗ Q ⟨q0c m c, q1c m c, k0_pay10, 4#32, Scalar.cmpi .eq 4#32 0#32, 1#32⟩)
          -∗ run c (onBufs (k0_part5 (F := F)) c) Q) := by
  unfold q0c q1c
  iintro ⟨#HR, HO, H1, S0, S1⟩ Hk
  unfold onBufs
  rw [k0_part5_eq_skeleton]
  unfold k0_part5_skel
  simp only [Prog.lift, Prog.bind_op, Prog.bind_ret, Prog.pure_eq_ret]
  iapply (send_V m K c 2 _ (Fin.ext (k0_dev9_eq c)) (k0_off6_eq c 2) (k0_off5_eq c) (k0_off3_eq c 2) (k0_off4_eq c)) $$ [HO H1]
  · iframe; iexact HR
  iintro ⟨C1, HO⟩
  iapply (load_eq c (Finset.subset_univ _) (Memref.readAt_unit_zero (Elt F) cc0_stg1_0 zeros2 _ (stg1 m c))) $$ S1; iintro S1
  iapply (load_eq c (M := Memref.whole cc0_stg0_0) (Finset.subset_univ _) rfl) $$ S0; iintro S0
  iapply (load_eq c (M := Memref.whole cc0_stg0_0) (Finset.subset_univ _) rfl) $$ S0; iintro S0
  iapply run_ret
  iapply Hk
  iframe

/-- The block numbers of the attention's mask. -/
theorem part6 {Q : _ → sProp 𝕄} :
    Q ⟨mask162, Scalar.select (Scalar.cmpi .eq 4#32 0#32) 1#32 4#32, k0_pay12, k0_pay13⟩
      ⊢ run c (onBufs (k0_part6 (F := F)) k0_pay10 4#32 (Scalar.cmpi .eq 4#32 0#32) 1#32) Q := by
  unfold mask162
  iintro Hk
  unfold onBufs
  rw [k0_part6_eq_skeleton]
  unfold k0_part6_skel
  simp only [Prog.lift, Prog.bind_op, Prog.bind_ret, Prog.pure_eq_ret]
  iapply run_ret
  iexact Hk

/-- The waits for the first partner's keys and values. -/
theorem part7 {Q : _ → sProp 𝕄} :
    iprop(records m K ∗ levAts L lv ∗ due (F := F) c (dues2 c)
        ∗ (cr (F := F) c 1 0 ∗ pos (F := F) c 1 0 0)
        ∗ (cr (F := F) c 3 0 ∗ pos (F := F) c 3 0 0))
      ⊢ iprop(((due (F := F) c (dues2 c)
            ∗ (pos (F := F) c 1 0 1 ∗ xPay m c 1 (pr c 0))
            ∗ (pos (F := F) c 3 0 1 ∗ xPay m c 3 (pr c 0)))
          -∗ Q ⟨mask, next c 2#32, Scalar.muli (next c 2#32) 1#32, 0#32⟩)
          -∗ run c (onBufs (k0_part7 (F := F)) c (num c) mask162 (Scalar.select (Scalar.cmpi .eq 4#32 0#32) 1#32 4#32) k0_pay12 k0_pay13) Q) := by
  unfold mask
  iintro ⟨#HR, #HL, HO, ⟨C10, P10⟩, C30, P30⟩ Hk
  unfold onBufs
  rw [k0_part7_eq_skeleton]
  unfold k0_part7_skel
  simp only [Prog.lift, Prog.bind_op, Prog.bind_ret, Prog.pure_eq_ret]
  iapply (wait_at m K c 1 0 _ (above2 c) rfl (k0_off3_eq c 0) (cred_slotV_K _ _)) $$ [HO C10 P10]
  · iframe; isplitr
    · iexact HR
    iexact HL
  iintro ⟨HO, P10, X10⟩
  iapply (wait_at m K c 3 0 _ (above2 c) rfl (k0_off3_eq c 0) (cred_slotV_V _ _)) $$ [HO C30 P30]
  · iframe; isplitr
    · iexact HR
    iexact HL
  iintro ⟨HO, P30, X30⟩
  iapply run_ret
  iapply Hk
  iframe

/-- The waits for the second partner's, and the third's keys. -/
theorem part8 {Q : _ → sProp 𝕄} (v222 v223 k0 : BitVec 32) :
    iprop(records m K ∗ levAts L lv ∗ due (F := F) c (dues2 c)
        ∗ (cr (F := F) c 1 1 ∗ pos (F := F) c 1 1 0)
        ∗ (cr (F := F) c 3 1 ∗ pos (F := F) c 3 1 0)
        ∗ (cr (F := F) c 1 2 ∗ pos (F := F) c 1 2 0))
      ⊢ iprop(((due (F := F) c (dues2 c)
            ∗ (pos (F := F) c 1 1 1 ∗ xPay m c 1 (pr c 1))
            ∗ (pos (F := F) c 3 1 1 ∗ xPay m c 3 (pr c 1))
            ∗ (pos (F := F) c 1 2 1 ∗ xPay m c 1 (pr c 2)))
          -∗ Q ⟨⟩)
          -∗ run c (onBufs (k0_part8 (F := F)) c (num c) v222 v223 k0) Q) := by
  iintro ⟨#HR, #HL, HO, ⟨C11, P11⟩, ⟨C31, P31⟩, C12, P12⟩ Hk
  unfold onBufs
  rw [k0_part8_eq_skeleton]
  unfold k0_part8_skel
  simp only [Prog.lift, Prog.bind_op, Prog.bind_ret, Prog.pure_eq_ret]
  iapply (wait_at m K c 1 1 _ (above2 c) rfl (k0_off3_eq c 1) (cred_slotV_K _ _)) $$ [HO C11 P11]
  · iframe; isplitr
    · iexact HR
    iexact HL
  iintro ⟨HO, P11, X11⟩
  iapply (wait_at m K c 3 1 _ (above2 c) rfl (k0_off3_eq c 1) (cred_slotV_V _ _)) $$ [HO C31 P31]
  · iframe; isplitr
    · iexact HR
    iexact HL
  iintro ⟨HO, P31, X31⟩
  iapply (wait_at m K c 1 2 _ (above2 c) rfl (k0_off3_eq c 2) (cred_slotV_K _ _)) $$ [HO C12 P12]
  · iframe; isplitr
    · iexact HR
    iexact HL
  iintro ⟨HO, P12, X12⟩
  iapply run_ret
  iapply Hk
  iframe

/-- The wait for the third partner's values: the landing buffers whole. The output weights; the keys of head 0. -/
theorem part9 {Q : _ → sProp 𝕄} (q : FVec F S256x256 .bf16) :
    iprop(records m K ∗ levAts L lv ∗ due (F := F) c (dues2 c) ∗ (cr (F := F) c 3 2 ∗ pos (F := F) c 3 2 0)
        ∗ (own (slotVj krM c) c fullShare (KRc m c) ∗ xPay m c 1 (pr c 0) ∗ xPay m c 1 (pr c 1) ∗ xPay m c 1 (pr c 2))
        ∗ (own (slotVj vrM c) c fullShare (VRc m c) ∗ xPay m c 3 (pr c 0) ∗ xPay m c 3 (pr c 1))
        ∗ bufHas c cc0_stg4_0 (stg4 m c))
      ⊢ iprop(((due (F := F) c (dues2 c) ∗ pos (F := F) c 3 2 1 ∗ bufHas c cc0_scratch2 (KRc m c) ∗ bufHas c cc0_scratch3 (VRc m c)
            ∗ bufHas c cc0_stg4_0 (stg4 m c))
            -∗ Q ⟨k0_pay15 (stg4 m c), k0_pay16 q, o264 (KRc m c), o266 (VRc m c), kAt (VRc m c) 1 0 0 (by decide)⟩)
          -∗ run c (onBufs (k0_part9 (F := F)) c q) Q) := by
  unfold o264 o266
  iintro ⟨#HR, #HL, HO, ⟨C32, P32⟩, HK, ⟨V0, V1, V2⟩, S4⟩ Hk
  unfold onBufs
  rw [k0_part9_eq_skeleton]
  unfold k0_part9_skel
  simp only [Prog.lift, Prog.bind_op, Prog.bind_ret, Prog.pure_eq_ret]
  iapply (wait_at m K c 3 2 _ (above2 c) rfl (k0_off3_eq c 2) (cred_slotV_V _ _)) $$ [HO C32 P32]
  · iframe; isplitr
    · iexact HR
    iexact HL
  iintro ⟨HO, P32, V3⟩
  ihave HK := (Entails.of_eq (parts_K' m c)) $$ HK
  ihave HV := (Entails.of_eq (parts_V' m c)) $$ [V0 V1 V2 V3]
  · iframe
  iapply (load_eq c (Finset.subset_univ _) (Memref.readAt_unit_zero (Elt F) cc0_stg4_0 zeros2 _ (stg4 m c))) $$ S4; iintro S4
  iapply (load_kr c (KRc m c)) $$ HK; iintro HK
  iapply (load_kr c (KRc m c)) $$ HK; iintro HK
  iapply (load_kr c (KRc m c)) $$ HK; iintro HK
  iapply (load_kr c (KRc m c)) $$ HK; iintro HK
  iapply (load_vr c (VRc m c)) $$ HV; iintro HV
  iapply (load_vr c (VRc m c)) $$ HV; iintro HV
  iapply run_ret
  iapply Hk
  iframe

end Cert.KernelIdeal.Hand

end
-- ==== Proof.KernelIdeal.Finish.lean ====
/-
The body after the heads: the partial results exchanged and summed, the sums gathered, the result stored, the sends waited for.
-/
module

public import proofs.«01_k».proof.Proof.KernelIdeal.Exchange

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : Dev nD × CIx → ℕ) (c : Dev nD)

/-! ## Row-block slots -/

/-- The own slot of the partial results stored. -/
theorem store_slotR {α : Type} {Q : α → sProp 𝕄} {o : Fin 4 → ℕ} {h hx hm} {k : PUnit → Prog (TpuEff nD τ sig (Elt F) Λ₀ .tc) α}
    (e : o = ![c.val, 0, 0, 0]) (f : TR F) :
    own (slotRj rsM c) c fullShare f ⊢ iprop((own (slotRj rsM c) c fullShare (RSc m c) -∗ run c (k ⟨⟩) Q)
      -∗ run c (.op (.store rsM (Rect.unit (s := S4x2x64x512) o S1x2x64x512.size h)
        (k0_pay61 (pcM.view.readAt (Elt F) (Rect.unit (s := S4x2x64x512) o S1x2x64x512.size h).toLoadRect (PCc m c))) Finset.univ hx hm) k) Q) :=
  store_eq c (M := rsM) (r := Rect.unit (s := S4x2x64x512) o S1x2x64x512.size h) (S := (slotRj rsM c).view.set) (f := f) (g := RSc m c)
    (reach_storeR rsM c e) (stored_R m c o h e f)
/-- The own slot of the summed results stored. -/
theorem store_slotA {α : Type} {Q : α → sProp 𝕄} {o : Fin 4 → ℕ} {h hx hm} {k : PUnit → Prog (TpuEff nD τ sig (Elt F) Λ₀ .tc) α}
    (e : o = ![c.val, 0, 0, 0]) (f : TR F) :
    own (slotRj agM c) c fullShare f ⊢ iprop((own (slotRj agM c) c fullShare (AGc m) -∗ run c (k ⟨⟩) Q)
      -∗ run c (.op (.store agM (Rect.unit (s := S4x2x64x512) o S1x2x64x512.size h)
        (k0_pay62 (RSc m c)) Finset.univ hx hm) k) Q) :=
  store_eq c (M := agM) (r := Rect.unit (s := S4x2x64x512) o S1x2x64x512.size h) (S := (slotRj agM c).view.set) (f := f) (g := AGc m)
    (reach_storeR agM c e) (stored_A m c o h e f)
/-- A load from one slot. -/
theorem load_slotR {α : Type} {Q : α → sProp 𝕄} (M : Memref sig .tc .vmem S4x2x64x512 .bf16) (j : Fin 4) {o : Fin 4 → ℕ} {h hl}
    {k : Vec F S1x2x64x512 .bf16 → Prog (TpuEff nD τ sig (Elt F) Λ₀ .tc) α} (e : o = ![j.val, 0, 0, 0]) (f : Buf (Elt F) ((slotRj M j).view.loc (c : Thread nD τ))) :
    own (slotRj M j) c fullShare f ⊢ iprop((own (slotRj M j) c fullShare f
        -∗ run c (k (M.view.readAt (Elt F) (Rect.unit (s := S4x2x64x512) o S1x2x64x512.size h).toLoadRect f)) Q)
      -∗ run c (.op (.load M (Rect.unit (s := S4x2x64x512) o S1x2x64x512.size h).toLoadRect hl) k) Q) :=
  load_eq c (M := M) (reach_loadR M j e) rfl
/-- A load from the partial results. -/
theorem load_pcAt {α : Type} {Q : α → sProp 𝕄} {r : LoadRect S4x2x64x512} {hl} {k : (r.shape.Idx → Elt F .bf16) → Prog (TpuEff nD τ sig (Elt F) Λ₀ .tc) α} (f : TR F) :
    bufHas c cc0_scratch4 f ⊢ iprop((bufHas c cc0_scratch4 f -∗ run c (k (pcM.view.readAt (Elt F) r f)) Q) -∗ run c (.op (.load pcM r hl) k) Q) :=
  load_eq c (M := pcM) (Finset.subset_univ _) rfl
/-- All partial results of the own row block read. -/
theorem load_rs {α : Type} {Q : α → sProp 𝕄} {h hl} {k : Vec F S4x2x64x512 .bf16 → Prog (TpuEff nD τ sig (Elt F) Λ₀ .tc) α} (f : TR F) :
    bufHas c cc0_scratch5 f ⊢ iprop((bufHas c cc0_scratch5 f -∗ run c (k f) Q)
      -∗ run c (.op (.load rsM (Rect.unit (s := S4x2x64x512) ![0, 0, 0, 0] S4x2x64x512.size h).toLoadRect hl) k) Q) :=
  load_eq c (M := rsM) (Finset.subset_univ _) (Memref.readAt_unit_zero (Elt F) cc0_scratch5 zeros4 _ f)
/-- The gathered sums, held at the own quarter share. -/
abbrev agQ (c : Dev nD) (f : TR F) : sProp 𝕄 := ((c : Thread nD τ).loc cc0_scratch6) ↦{quarter c} f
/-- All row blocks of the result read, while the own one is still being sent. -/
theorem load_ag {α : Type} {Q : α → sProp 𝕄} {h hl} {k : Vec F S4x2x64x512 .bf16 → Prog (TpuEff nD τ sig (Elt F) Λ₀ .tc) α} (f : TR F) :
    agQ c f ⊢ iprop((agQ c f -∗ run c (k f) Q)
      -∗ run c (.op (.load agM (Rect.unit (s := S4x2x64x512) ![0, 0, 0, 0] S4x2x64x512.size h).toLoadRect hl) k) Q) :=
  load_eq c (M := agM) (Finset.subset_univ _) (Memref.readAt_unit_zero (Elt F) cc0_scratch6 zeros4 _ f)
/-- The result stored. -/
theorem store_out {α : Type} {Q : α → sProp 𝕄} {h hx hm} {k : PUnit → Prog (TpuEff nD τ sig (Elt F) Λ₀ .tc) α} (f w : Vec F S2x256x512 .f32) :
    bufHas c cc0_stg5_0 f ⊢ iprop((bufHas c cc0_stg5_0 w -∗ run c (k ⟨⟩) Q)
      -∗ run c (.op (.store (Memref.whole cc0_stg5_0) (Rect.unit (s := S2x256x512) ![0, 0, 0] S2x256x512.size h) w Finset.univ hx hm) k) Q) :=
  store_eq c (M := Memref.whole cc0_stg5_0) (r := Rect.unit (s := S2x256x512) ![0, 0, 0] S2x256x512.size h) (S := Finset.univ) (f := f) (g := w)
    (Finset.subset_univ _) (by
      have e : ((Memref.whole cc0_stg5_0).access (Rect.unit (s := S2x256x512) ![0, 0, 0] S2x256x512.size h)).write (Elt F) f w Finset.univ = w :=
        Memref.write_access_unit_zero_univ (Elt F) cc0_stg5_0 zeros3 h f w
      rw [e])

/-! ## Lending the gathered sums -/

/-- The own row block's sum, lent to the three copies and kept in part. -/
theorem quarters6 : own (slotRj agM c) c fullShare (AGc m)
    = iprop(own (slotRj agM c) c (quarter c) (AGc m) ∗ xPay m c 6 (pr c 0) ∗ xPay m c 6 (pr c 1) ∗ xPay m c 6 (pr c 2)) :=
  quarters (ℓ := (slotRj agM c).view.loc (c : Thread nD τ)) (slotRj agM c).view.set (AGc m) c
/-- The result is read at the own quarter share: one quarter of each slot. -/
theorem borrow : iprop(own (slotRj agM c) c (quarter c) (AGc m) ∗ xPay m c 7 (pr c 0) ∗ xPay m c 7 (pr c 1) ∗ xPay m c 7 (pr c 2))
    ⊢ iprop(agQ c (AGc m) ∗ (agQ c (AGc m)
        -∗ iprop(own (slotRj agM c) c (quarter c) (AGc m) ∗ xPay m c 7 (pr c 0) ∗ xPay m c 7 (pr c 1) ∗ xPay m c 7 (pr c 2)))) := by
  have q : ∀ r, xPay m c 7 (pr c r) = iprop(own (slotRj agM (pr c r)) c (quarter c) (AGc m) ∗ own (slotRj agM (pr c r)) c (quarter (pr c 0)) (AGc m)
      ∗ own (slotRj agM (pr c r)) c (quarter (pr c 1)) (AGc m) ∗ own (slotRj agM (pr c r)) c (quarter (pr c 2)) (AGc m)) :=
    fun r => quarters (ℓ := (slotRj agM (pr c r)).view.loc (c : Thread nD τ)) (slotRj agM (pr c r)).view.set (AGc m) c
  have e : agQ c (AGc m) = _ := parts_A c (quarter c) (AGc m)
  rw [q 0, q 1, q 2, e]
  iintro ⟨H, ⟨A0, B0⟩, ⟨A1, B1⟩, ⟨A2, B2⟩⟩
  isplitl [H A0 A1 A2]
  · iframe
  iintro ⟨H, A0, A1, A2⟩
  iframe

/-! ## The parts after the heads -/

/-- The last partial results stored, and the own row block kept. -/
theorem part21 {Q : _ → sProp 𝕄} (f : TR F) (v558 : FVec F S256x512 .f32) (v563 : FVec F S1x1x64x512 .bf16)
    (hg : put (put (put (put f 0 1 v563) 1 1 (k0_pay58 v558)) 2 1 (k0_pay59 v558)) 3 1 (k0_pay60 v558) = PCc m c) :
    iprop(bufHas c cc0_scratch4 f ∗ (∃ g, own (F := F) (slotRj rsM c) c fullShare g))
      ⊢ iprop(((bufHas c cc0_scratch4 (PCc m c) ∗ own (slotRj rsM c) c fullShare (RSc m c)) -∗ Q ⟨⟩)
          -∗ run c (onBufs (k0_part21 (F := F)) c (num c) v558 v563) Q) := by
  iintro ⟨HP, ⟨%g, HR⟩⟩ Hk
  unfold onBufs
  rw [k0_part21_eq_skeleton]
  unfold k0_part21_skel
  simp only [Prog.lift, Prog.bind_op, Prog.bind_ret, Prog.pure_eq_ret]
  iapply (store_pc c _) $$ HP; iintro HP
  iapply (load_pc c _ _ fun _ => rfl) $$ HP; iintro HP
  iapply (store_pc c _) $$ HP; iintro HP
  iapply (load_pc c _ _ fun _ => rfl) $$ HP; iintro HP
  iapply (store_pc c _) $$ HP; iintro HP
  iapply (load_pc c _ _ fun _ => rfl) $$ HP; iintro HP
  iapply (store_pc c _) $$ HP; iintro HP
  ihave HP := (Entails.of_eq (show bufHas c cc0_scratch4 _ = bufHas c cc0_scratch4 (PCc m c) by rw [hg])) $$ HP
  iapply (load_pcAt c _) $$ HP; iintro HP
  iapply (load_slotR c rsM c (k0_off8_eq c) _) $$ HR; iintro HR
  iapply (store_slotR m c (k0_off8_eq c) _) $$ HR; iintro HR
  iapply run_ret
  iapply Hk
  iframe

/-- The partial results of the partners' row blocks sent. -/
theorem part22 {Q : _ → sProp 𝕄} (l : List (Dev nD × CIx)) :
    iprop(records m K ∗ due (F := F) c ((pr c 0, some (5, c)) :: (pr c 1, some (5, c)) :: (pr c 2, some (5, c)) :: l) ∗ goP m c 0 ∗ goP m c 1 ∗ goP m c 2)
      ⊢ iprop(((due (F := F) c l ∗ cr (F := F) c 4 0 ∗ cr (F := F) c 4 1 ∗ cr (F := F) c 4 2)
            -∗ Q ⟨Scalar.muli (next c 1#32) 1#32, 0#32⟩)
          -∗ run c (onBufs (k0_part22 (F := F)) c (num c)) Q) := by
  iintro ⟨#HR, HO, H0, H1, H2⟩ Hk
  unfold onBufs
  rw [k0_part22_eq_skeleton]
  unfold k0_part22_skel
  simp only [Prog.lift, Prog.bind_op, Prog.bind_ret, Prog.pure_eq_ret]
  iapply (send_P m K c 0 _ (Fin.ext (k0_dev10_eq c)) (k0_off10_eq c 0) (k0_off9_eq c) (k0_off3_eq c 0) (k0_off4_eq c)) $$ [HO H0]
  · iframe; iexact HR
  iintro ⟨C0, HO⟩
  iapply (send_P m K c 1 _ (Fin.ext (k0_dev11_eq c)) (k0_off10_eq c 1) (k0_off9_eq c) (k0_off3_eq c 1) (k0_off4_eq c)) $$ [HO H1]
  · iframe; iexact HR
  iintro ⟨C1, HO⟩
  iapply (send_P m K c 2 _ (Fin.ext (k0_dev12_eq c)) (k0_off10_eq c 2) (k0_off9_eq c) (k0_off3_eq c 2) (k0_off4_eq c)) $$ [HO H2]
  · iframe; iexact HR
  iintro ⟨C2, HO⟩
  iapply run_ret
  iapply Hk
  iframe

/-- The waits for the partners' partial results. -/
theorem part23 {Q : _ → sProp 𝕄} (v623 k0 : BitVec 32) :
    iprop(records m K ∗ levAts L lv ∗ due (F := F) c (dues3 c)
        ∗ (cr (F := F) c 5 0 ∗ pos (F := F) c 5 0 0)
        ∗ (cr (F := F) c 5 1 ∗ pos (F := F) c 5 1 0)
        ∗ (cr (F := F) c 5 2 ∗ pos (F := F) c 5 2 0))
      ⊢ iprop(((due (F := F) c (dues3 c)
            ∗ (pos (F := F) c 5 0 1 ∗ xPay m c 5 (pr c 0))
            ∗ (pos (F := F) c 5 1 1 ∗ xPay m c 5 (pr c 1))
            ∗ (pos (F := F) c 5 2 1 ∗ xPay m c 5 (pr c 2)))
          -∗ Q ⟨⟩)
          -∗ run c (onBufs (k0_part23 (F := F)) c (num c) v623 k0) Q) := by
  iintro ⟨#HR, #HL, HO, ⟨C50, P50⟩, ⟨C51, P51⟩, C52, P52⟩ Hk
  unfold onBufs
  rw [k0_part23_eq_skeleton]
  unfold k0_part23_skel
  simp only [Prog.lift, Prog.bind_op, Prog.bind_ret, Prog.pure_eq_ret]
  iapply (wait_at m K c 5 0 _ (above3 c) rfl (k0_off3_eq c 0) (cred_slotR_R _ _)) $$ [HO C50 P50]
  · iframe; isplitr
    · iexact HR
    iexact HL
  iintro ⟨HO, P50, X50⟩
  iapply (wait_at m K c 5 1 _ (above3 c) rfl (k0_off3_eq c 1) (cred_slotR_R _ _)) $$ [HO C51 P51]
  · iframe; isplitr
    · iexact HR
    iexact HL
  iintro ⟨HO, P51, X51⟩
  iapply (wait_at m K c 5 2 _ (above3 c) rfl (k0_off3_eq c 2) (cred_slotR_R _ _)) $$ [HO C52 P52]
  · iframe; isplitr
    · iexact HR
    iexact HL
  iintro ⟨HO, P52, X52⟩
  iapply run_ret
  iapply Hk
  iframe

/-- The own row block summed, and its copies to two partners. -/
theorem part24 {Q : _ → sProp 𝕄} (l : List (Dev nD × CIx)) :
    iprop(records m K ∗ due (F := F) c ((pr c 0, some (7, c)) :: (pr c 1, some (7, c)) :: l) ∗ bufHas c cc0_scratch5 (RSc m c)
        ∗ (∃ f, own (F := F) (slotRj agM c) c fullShare f)
        ∗ ((∃ f, own (F := F) (slotRj agM c) (pr c 0) fullShare f) ∗ tk (F := F) c 6 7 0)
        ∗ ((∃ f, own (F := F) (slotRj agM c) (pr c 1) fullShare f) ∗ tk (F := F) c 6 7 1))
      ⊢ iprop(((due (F := F) c l ∗ cr (F := F) c 6 0 ∗ cr (F := F) c 6 1 ∗ bufHas c cc0_scratch5 (RSc m c)
            ∗ own (slotRj agM c) c (quarter c) (AGc m) ∗ xPay m c 6 (pr c 2)) -∗ Q ⟨⟩)
          -∗ run c (onBufs (k0_part24 (F := F)) c (num c)) Q) := by
  iintro ⟨#HR, HO, HS, ⟨%f, HA⟩, ⟨H0, T0⟩, ⟨H1, T1⟩⟩ Hk
  unfold onBufs
  rw [k0_part24_eq_skeleton]
  unfold k0_part24_skel
  simp only [Prog.lift, Prog.bind_op, Prog.bind_ret, Prog.pure_eq_ret]
  iapply (load_rs c _) $$ HS; iintro HS
  iapply (load_slotR c agM c (k0_off8_eq c) _) $$ HA; iintro HA
  iapply (store_slotA m c (k0_off8_eq c) _) $$ HA; iintro HA
  ihave HA := (Entails.of_eq (quarters6 m c)) $$ HA
  icases HA with ⟨HA, A0, A1, A2⟩
  iapply (send_A m K c 0 _ (Fin.ext (k0_dev13_eq c)) (k0_off9_eq c) (k0_off9_eq c) (k0_off3_eq c 0) (k0_off4_eq c)) $$ [HO H0 A0 T0]
  · unfold goA; iframe; iexact HR
  iintro ⟨C0, HO⟩
  iapply (send_A m K c 1 _ (Fin.ext (k0_dev14_eq c)) (k0_off9_eq c) (k0_off9_eq c) (k0_off3_eq c 1) (k0_off4_eq c)) $$ [HO H1 A1 T1]
  · unfold goA; iframe; iexact HR
  iintro ⟨C1, HO⟩
  iapply run_ret
  iapply Hk
  iframe

/-- The last copy of the own row block; the wait for the first partner's. -/
theorem part25 {Q : _ → sProp 𝕄} :
    iprop(records m K ∗ levAts L lv ∗ due (F := F) c [(pr c 2, some (7, c))] ∗ goA m c 2 ∗ cr (F := F) c 7 0 ∗ pos (F := F) c 7 0 0)
      ⊢ iprop(((due (F := F) c [] ∗ cr (F := F) c 6 2 ∗ pos (F := F) c 7 0 1 ∗ xPay m c 7 (pr c 0)) -∗ Q ⟨⟩)
          -∗ run c (onBufs (k0_part25 (F := F)) c (num c)) Q) := by
  iintro ⟨#HR, #HL, HO, H2, C70, P70⟩ Hk
  unfold onBufs
  rw [k0_part25_eq_skeleton]
  unfold k0_part25_skel
  simp only [Prog.lift, Prog.bind_op, Prog.bind_ret, Prog.pure_eq_ret]
  iapply (send_A m K c 2 _ (Fin.ext (k0_dev15_eq c)) (k0_off9_eq c) (k0_off9_eq c) (k0_off3_eq c 2) (k0_off4_eq c)) $$ [HO H2]
  · iframe; iexact HR
  iintro ⟨C2, HO⟩
  iapply (wait_at m K c 7 0 _ (above0 _) rfl (k0_off3_eq c 0) (cred_slotR_A _ _)) $$ [HO C70 P70]
  · iframe; isplitr
    · iexact HR
    iexact HL
  iintro ⟨HO, P70, X70⟩
  iapply run_ret
  iapply Hk
  iframe

/-- The waits for the other row blocks; the result read and stored; the first send is over. -/
theorem part26 {Q : _ → sProp 𝕄} :
    iprop(records m K ∗ levAts L lv ∗ due (F := F) c [] ∗ (cr (F := F) c 7 1 ∗ pos (F := F) c 7 1 0) ∗ (cr (F := F) c 7 2 ∗ pos (F := F) c 7 2 0) ∗ (cr (F := F) c 0 0 ∗ pos (F := F) c 0 0 0)
        ∗ own (slotRj agM c) c (quarter c) (AGc m) ∗ xPay m c 7 (pr c 0) ∗ (∃ f, bufHas (F := F) c cc0_stg5_0 f))
      ⊢ iprop(((due (F := F) c [] ∗ pos (F := F) c 7 1 1 ∗ pos (F := F) c 7 2 1 ∗ (pos (F := F) c 0 0 1 ∗ xPay m c 0 (pr c 0))
            ∗ own (slotRj agM c) c (quarter c) (AGc m) ∗ xPay m c 7 (pr c 0) ∗ xPay m c 7 (pr c 1) ∗ xPay m c 7 (pr c 2)
            ∗ bufHas c cc0_stg5_0 (outc m)) -∗ Q ⟨⟩)
          -∗ run c (onBufs (k0_part26 (F := F)) c (num c)) Q) := by
  unfold outc
  iintro ⟨#HR, #HL, HO, ⟨C71, P71⟩, ⟨C72, P72⟩, ⟨C00, P00⟩, HA, X70, ⟨%f, H5⟩⟩ Hk
  unfold onBufs
  rw [k0_part26_eq_skeleton]
  unfold k0_part26_skel
  simp only [Prog.lift, Prog.bind_op, Prog.bind_ret, Prog.pure_eq_ret]
  iapply (wait_at m K c 7 1 _ (above0 _) rfl (k0_off3_eq c 1) (cred_slotR_A _ _)) $$ [HO C71 P71]
  · iframe; isplitr
    · iexact HR
    iexact HL
  iintro ⟨HO, P71, X71⟩
  iapply (wait_at m K c 7 2 _ (above0 _) rfl (k0_off3_eq c 2) (cred_slotR_A _ _)) $$ [HO C72 P72]
  · iframe; isplitr
    · iexact HR
    iexact HL
  iintro ⟨HO, P72, X72⟩
  ihave HB := (borrow m c) $$ [HA X70 X71 X72]
  · iframe
  icases HB with ⟨HA, HB⟩
  iapply (load_ag c _) $$ HA; iintro HA
  ispecialize HB $$ HA
  icases HB with ⟨HA, X70, X71, X72⟩
  iapply (load_eq c (M := Memref.whole cc0_stg5_0) (Finset.subset_univ _) rfl) $$ H5; iintro H5
  iapply (store_out c f _) $$ H5; iintro H5
  iapply (wait_at m K c 0 0 _ (above0 _) rfl (k0_off3_eq c 0) (cred_blkV_K _ _)) $$ [HO C00 P00]
  · iframe; isplitr
    · iexact HR
    iexact HL
  iintro ⟨HO, P00, X00⟩
  iapply run_ret
  iapply Hk
  iframe

/-- More sends are over. -/
theorem part27 {Q : _ → sProp 𝕄} :
    iprop(records m K ∗ levAts L lv ∗ due (F := F) c []
        ∗ (cr (F := F) c 2 0 ∗ pos (F := F) c 2 0 0)
        ∗ (cr (F := F) c 0 1 ∗ pos (F := F) c 0 1 0)
        ∗ (cr (F := F) c 2 1 ∗ pos (F := F) c 2 1 0)
        ∗ (cr (F := F) c 0 2 ∗ pos (F := F) c 0 2 0))
      ⊢ iprop(((due (F := F) c []
            ∗ (pos (F := F) c 2 0 1 ∗ xPay m c 2 (pr c 0))
            ∗ (pos (F := F) c 0 1 1 ∗ xPay m c 0 (pr c 1))
            ∗ (pos (F := F) c 2 1 1 ∗ xPay m c 2 (pr c 1))
            ∗ (pos (F := F) c 0 2 1 ∗ xPay m c 0 (pr c 2)))
          -∗ Q ⟨⟩)
          -∗ run c (onBufs (k0_part27 (F := F)) c) Q) := by
  iintro ⟨#HR, #HL, HO, ⟨C20, P20⟩, ⟨C01, P01⟩, ⟨C21, P21⟩, C02, P02⟩ Hk
  unfold onBufs
  rw [k0_part27_eq_skeleton]
  unfold k0_part27_skel
  simp only [Prog.lift, Prog.bind_op, Prog.bind_ret, Prog.pure_eq_ret]
  iapply (wait_at m K c 2 0 _ (above0 _) rfl (k0_off3_eq c 0) (cred_blkV_V _ _)) $$ [HO C20 P20]
  · iframe; isplitr
    · iexact HR
    iexact HL
  iintro ⟨HO, P20, X20⟩
  iapply (wait_at m K c 0 1 _ (above0 _) rfl (k0_off3_eq c 1) (cred_blkV_K _ _)) $$ [HO C01 P01]
  · iframe; isplitr
    · iexact HR
    iexact HL
  iintro ⟨HO, P01, X01⟩
  iapply (wait_at m K c 2 1 _ (above0 _) rfl (k0_off3_eq c 1) (cred_blkV_V _ _)) $$ [HO C21 P21]
  · iframe; isplitr
    · iexact HR
    iexact HL
  iintro ⟨HO, P21, X21⟩
  iapply (wait_at m K c 0 2 _ (above0 _) rfl (k0_off3_eq c 2) (cred_blkV_K _ _)) $$ [HO C02 P02]
  · iframe; isplitr
    · iexact HR
    iexact HL
  iintro ⟨HO, P02, X02⟩
  iapply run_ret
  iapply Hk
  iframe

/-- More sends are over. -/
theorem part28 {Q : _ → sProp 𝕄} :
    iprop(records m K ∗ levAts L lv ∗ due (F := F) c []
        ∗ (cr (F := F) c 2 2 ∗ pos (F := F) c 2 2 0)
        ∗ (cr (F := F) c 4 0 ∗ pos (F := F) c 4 0 0)
        ∗ (cr (F := F) c 4 1 ∗ pos (F := F) c 4 1 0)
        ∗ (cr (F := F) c 4 2 ∗ pos (F := F) c 4 2 0)
        ∗ (cr (F := F) c 6 0 ∗ pos (F := F) c 6 0 0))
      ⊢ iprop(((due (F := F) c []
            ∗ (pos (F := F) c 2 2 1 ∗ xPay m c 2 (pr c 2))
            ∗ (pos (F := F) c 4 0 1 ∗ xPay m c 4 (pr c 0))
            ∗ (pos (F := F) c 4 1 1 ∗ xPay m c 4 (pr c 1))
            ∗ (pos (F := F) c 4 2 1 ∗ xPay m c 4 (pr c 2))
            ∗ (pos (F := F) c 6 0 1 ∗ xPay m c 6 (pr c 0)))
          -∗ Q ⟨⟩)
          -∗ run c (onBufs (k0_part28 (F := F)) c) Q) := by
  iintro ⟨#HR, #HL, HO, ⟨C22, P22⟩, ⟨C40, P40⟩, ⟨C41, P41⟩, ⟨C42, P42⟩, C60, P60⟩ Hk
  unfold onBufs
  rw [k0_part28_eq_skeleton]
  unfold k0_part28_skel
  simp only [Prog.lift, Prog.bind_op, Prog.bind_ret, Prog.pure_eq_ret]
  iapply (wait_at m K c 2 2 _ (above0 _) rfl (k0_off3_eq c 2) (cred_blkV_V _ _)) $$ [HO C22 P22]
  · iframe; isplitr
    · iexact HR
    iexact HL
  iintro ⟨HO, P22, X22⟩
  iapply (wait_at m K c 4 0 _ (above0 _) rfl (k0_off3_eq c 0) (cred_slotR_P _ _)) $$ [HO C40 P40]
  · iframe; isplitr
    · iexact HR
    iexact HL
  iintro ⟨HO, P40, X40⟩
  iapply (wait_at m K c 4 1 _ (above0 _) rfl (k0_off3_eq c 1) (cred_slotR_P _ _)) $$ [HO C41 P41]
  · iframe; isplitr
    · iexact HR
    iexact HL
  iintro ⟨HO, P41, X41⟩
  iapply (wait_at m K c 4 2 _ (above0 _) rfl (k0_off3_eq c 2) (cred_slotR_P _ _)) $$ [HO C42 P42]
  · iframe; isplitr
    · iexact HR
    iexact HL
  iintro ⟨HO, P42, X42⟩
  iapply (wait_at m K c 6 0 _ (above0 _) rfl (k0_off3_eq c 0) (cred_slotR_A _ _)) $$ [HO C60 P60]
  · iframe; isplitr
    · iexact HR
    iexact HL
  iintro ⟨HO, P60, X60⟩
  iapply run_ret
  iapply Hk
  iframe

end Cert.KernelIdeal.Hand

end
-- ==== Proof.KernelIdeal.Body.lean ====
/-
The body at a device, from its parts.
-/
module

public import proofs.«01_k».proof.Proof.KernelIdeal.Heads
public import proofs.«01_k».proof.Proof.KernelIdeal.Finish

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : Dev nD × CIx → ℕ) (c : Dev nD)

/-! ## The body as its parts -/

/-- The body from part 21 on. -/
noncomputable def partsC (d0 : Dev nD) (v2 : BitVec 32) (v558 : FVec F S256x512 .f32) (v563 : FVec F S1x1x64x512 .bf16) : Prog (TpuEff nD τ sig (Elt F) Λ₀ .tc) PUnit :=
  onBufs (k0_part21 (F := F)) d0 v2 v558 v563 >>= fun _ =>
  onBufs (k0_part22 (F := F)) d0 v2 >>= fun x22 =>
  onBufs (k0_part23 (F := F)) d0 v2 x22.1 x22.2 >>= fun _ =>
  onBufs (k0_part24 (F := F)) d0 v2 >>= fun _ =>
  onBufs (k0_part25 (F := F)) d0 v2 >>= fun _ =>
  onBufs (k0_part26 (F := F)) d0 v2 >>= fun _ =>
  onBufs (k0_part27 (F := F)) d0 >>= fun _ =>
  onBufs (k0_part28 (F := F)) d0 >>= fun _ =>
  Prog.lift (.waitDma2 (semAt cc0_scratch13 (k0_off3 d0 2#32) (k0_off3_inb d0 1)) (slotR agM (k0_off9 d0) (k0_off9_inb d0)) (slotR agM (k0_off9 d0) (k0_off9_inb d0))
    (((Memref.isWhole_whole cc0_scratch6).wordExact_slice rfl _ (k0_off9_wordsbf16 d0)).reshape _ _) (((Memref.isWhole_whole cc0_scratch6).wordExact_slice rfl _ (k0_off9_wordsbf16 d0)).reshape _ _)) >>= fun _ =>
  Prog.lift (.waitDma2 (semAt cc0_scratch13 (k0_off3 d0 3#32) (k0_off3_inb d0 2)) (slotR agM (k0_off9 d0) (k0_off9_inb d0)) (slotR agM (k0_off9 d0) (k0_off9_inb d0))
    (((Memref.isWhole_whole cc0_scratch6).wordExact_slice rfl _ (k0_off9_wordsbf16 d0)).reshape _ _) (((Memref.isWhole_whole cc0_scratch6).wordExact_slice rfl _ (k0_off9_wordsbf16 d0)).reshape _ _)) >>= fun _ =>
  pure ⟨⟩

/-- The body from part 10 on: the heads. -/
noncomputable def partsB (d0 : Dev nD) (v2 : BitVec 32) (v117 : FVec F S256x256 .bf16) (v121 : FVec F S256x256 .bf16) (v204 : IVec S256x1024 1) (v254 : FVec F S256x512 .f32) (v255 : FVec F S256x64 .bf16) (v264 : FVec F S1024x64 .bf16) (v266 : FVec F S256x64 .bf16) (v267 : Vec F S1x1x1x256x64 .bf16) : Prog (TpuEff nD τ sig (Elt F) Λ₀ .tc) PUnit :=
  onBufs (k0_part10 (F := F)) v117 v204 v255 v264 v266 v267 >>= fun x10 =>
  onBufs (k0_part11 (F := F)) v117 v204 x10.2.1 x10.2.2.1 x10.2.2.2.1 x10.2.2.2.2 >>= fun x11 =>
  onBufs (k0_part12 (F := F)) x11.2 >>= fun x12 =>
  onBufs (k0_part13 (F := F)) v117 v204 x12.1 x12.2 >>= fun x13 =>
  onBufs (k0_part14 (F := F)) v204 v254 x10.1 x11.1 x13.1 x13.2.1 x13.2.2.1 x13.2.2.2 >>= fun x14 =>
  onBufs (k0_part15 (F := F)) v121 x14.1 x14.2 >>= fun x15 =>
  onBufs (k0_part16 (F := F)) v121 v204 x15.1 x15.2.1 x15.2.2 >>= fun x16 =>
  onBufs (k0_part17 (F := F)) v204 x16.2.1 x16.2.2.1 x16.2.2.2 >>= fun x17 =>
  onBufs (k0_part18 (F := F)) v121 x17.1 x17.2.1 x17.2.2 >>= fun x18 =>
  onBufs (k0_part19 (F := F)) v121 v204 x18.2.1 x18.2.2.1 x18.2.2.2.1 x18.2.2.2.2.1 x18.2.2.2.2.2 >>= fun x19 =>
  onBufs (k0_part20 (F := F)) v204 v254 x16.1 x18.1 x19.1 x19.2.1 x19.2.2 >>= fun x20 =>
  partsC d0 v2 x20.1 x20.2

/-- The body on the launch's buffers, part by part. -/
noncomputable def parts28 : Prog (TpuEff nD τ sig (Elt F) Λ₀ .tc) PUnit :=
  onBufs (k0_part1 (F := F)) >>= fun x1 =>
  onBufs (k0_part2 (F := F)) x1.1 x1.2.1 x1.2.2.1 x1.2.2.2 >>= fun x2 =>
  onBufs (k0_part3 (F := F)) x1.1 x1.2.1 x2 >>= fun x3 =>
  onBufs (k0_part4 (F := F)) x1.1 x1.2.1 x3.1 x3.2 >>= fun _ =>
  onBufs (k0_part5 (F := F)) x1.1 >>= fun x5 =>
  onBufs (k0_part6 (F := F)) x5.2.2.1 x5.2.2.2.1 x5.2.2.2.2.1 x5.2.2.2.2.2 >>= fun x6 =>
  onBufs (k0_part7 (F := F)) x1.1 x1.2.1 x6.1 x6.2.1 x6.2.2.1 x6.2.2.2 >>= fun x7 =>
  onBufs (k0_part8 (F := F)) x1.1 x1.2.1 x7.2.1 x7.2.2.1 x7.2.2.2 >>= fun _ =>
  onBufs (k0_part9 (F := F)) x1.1 x5.1 >>= fun x9 =>
  partsB x1.1 x1.2.1 x5.1 x5.2.1 x7.1 x9.1 x9.2.1 x9.2.2.1 x9.2.2.2.1 x9.2.2.2.2

set_option maxRecDepth 65536 in
theorem body_eq : onBufs (cc0_body (F := F)) = parts28 (F := F) := rfl

theorem seq {α β : Type} {Q : β → sProp 𝕄} {p : Prog (TpuEff nD τ sig (Elt F) Λ₀ .tc) α} {k : α → Prog (TpuEff nD τ sig (Elt F) Λ₀ .tc) β} :
    run c p (fun x => run c (k x) Q) ⊢ run c (p >>= k) Q := by
  unfold run; rw [wp_bind]

/-! ## What a device brings and takes -/

/-- For one partner: the tokens to signal and to send with, and the credits to wait on its copies. -/
def kit (r : Fin 3) : sProp 𝕄 :=
  iprop(dutyTok ER (kcell (pr c r, none)) 0 (rv r)
    ∗ tk (F := F) c 0 1 r ∗ tk (F := F) c 2 3 r ∗ tk (F := F) c 4 5 r ∗ tk (F := F) c 6 7 r
    ∗ cr (F := F) c 1 r ∗ cr (F := F) c 3 r ∗ cr (F := F) c 5 r ∗ cr (F := F) c 7 r)
/-- The device's places at its eight semaphores towards one partner, before round `n`. -/
def places (r : Fin 3) (n : ℕ) : sProp 𝕄 :=
  iprop(pos (F := F) c 0 r n ∗ pos (F := F) c 1 r n ∗ pos (F := F) c 2 r n ∗ pos (F := F) c 3 r n ∗ pos (F := F) c 4 r n ∗ pos (F := F) c 5 r n ∗ pos (F := F) c 6 r n ∗ pos (F := F) c 7 r n)
/-- The scratch buffers, whatever they hold. -/
def scratch : sProp 𝕄 :=
  iprop((∃ f, bufHas (F := F) c cc0_scratch0 f) ∗ (∃ f, bufHas (F := F) c cc0_scratch1 f) ∗ (∃ f, bufHas (F := F) c cc0_scratch2 f) ∗ (∃ f, bufHas (F := F) c cc0_scratch3 f) ∗ (∃ f, bufHas (F := F) c cc0_scratch4 f) ∗ (∃ f, bufHas (F := F) c cc0_scratch5 f) ∗ (∃ f, bufHas (F := F) c cc0_scratch6 f))
/-- The staged operands. -/
def operands : sProp 𝕄 :=
  iprop(bufHas c cc0_stg0_0 (stg0 m c) ∗ bufHas c cc0_stg1_0 (stg1 m c) ∗ bufHas c cc0_stg2_0 (stg2 m c) ∗ bufHas c cc0_stg3_0 (stg3 m c) ∗ bufHas c cc0_stg4_0 (stg4 m c))

theorem landing_mk (p q : Dev nD) (f2 f3 f5 f6) :
    iprop(own (F := F) (slotVj krM q) p fullShare f2 ∗ own (F := F) (slotVj vrM q) p fullShare f3
      ∗ own (F := F) (slotRj rsM q) p fullShare f5 ∗ own (F := F) (slotRj agM q) p fullShare f6) ⊢ landing (F := F) p q := by
  unfold landing
  iintro ⟨H2, H3, H5, H6⟩
  isplitl [H2]; · iexists f2; iexact H2
  isplitl [H3]; · iexists f3; iexact H3
  isplitl [H5]; · iexists f5; iexact H5
  iexists f6; iexact H6
theorem split_K : bufHas c cc0_scratch0 (KSc m c) = iprop(own (blkVj ksM c) c fullShare (KSc m c) ∗ xPay m c 0 (pr c 0) ∗ xPay m c 0 (pr c 1) ∗ xPay m c 0 (pr c 2)) :=
  parts_K c fullShare (KSc m c)
theorem split_V : bufHas c cc0_scratch1 (VSc m c) = iprop(own (blkVj vsM c) c fullShare (VSc m c) ∗ xPay m c 2 (pr c 0) ∗ xPay m c 2 (pr c 1) ∗ xPay m c 2 (pr c 2)) :=
  parts_V c fullShare (VSc m c)
theorem split_P : bufHas c cc0_scratch4 (PCc m c) = iprop(own (slotRj pcM c) c fullShare (PCc m c) ∗ xPay m c 4 (pr c 0) ∗ xPay m c 4 (pr c 1) ∗ xPay m c 4 (pr c 2)) :=
  parts_P c fullShare (PCc m c)
theorem split_R : bufHas c cc0_scratch5 (RSc m c) = iprop(own (slotRj rsM c) c fullShare (RSc m c) ∗ xPay m c 5 (pr c 0) ∗ xPay m c 5 (pr c 1) ∗ xPay m c 5 (pr c 2)) :=
  parts_R c fullShare (RSc m c)
theorem split_A : bufHas c cc0_scratch6 (AGc m) = iprop(own (slotRj agM c) c fullShare (AGc m) ∗ xPay m c 7 (pr c 0) ∗ xPay m c 7 (pr c 1) ∗ xPay m c 7 (pr c 2)) :=
  parts_A c fullShare (AGc m)
/-- The partial results stored before part 21. -/
def most (f : TR F) : TR F :=
  put (put (put (put f 0 0 (o401 (q0c m c) (KRc m c) (VRc m c) (stg4 m c))) 1 0 (k0_pay35 (o403 (q0c m c) (KRc m c) (VRc m c) (stg4 m c))))
    2 0 (k0_pay36 (o396 (q0c m c) (KRc m c) (VRc m c) (stg4 m c)))) 3 0 (k0_pay37 (o396 (q0c m c) (KRc m c) (VRc m c) (stg4 m c)))
theorem puts_PC (f : TR F) : put (put (put (put (most m c f) 0 1 (o563 (q1c m c) (KRc m c) (VRc m c) (stg4 m c)))
    1 1 (k0_pay58 (o558 (q1c m c) (KRc m c) (VRc m c) (stg4 m c)))) 2 1 (k0_pay59 (o558 (q1c m c) (KRc m c) (VRc m c) (stg4 m c))))
    3 1 (k0_pay60 (o558 (q1c m c) (KRc m c) (VRc m c) (stg4 m c))) = PCc m c :=
  puts_eq (q0c m c) (q1c m c) (KRc m c) (VRc m c) (stg4 m c) f

/-- The body up to the heads. -/
theorem before {Q : _ → sProp 𝕄} (f0 f1 : TS F) (f2 f3 : TV F) (f5 f6 : TR F) :
    iprop(records m K ∗ levAts L lv ∗ due (F := F) c (dues c)
        ∗ cred (tallyAt (kcell (c, none)) () 3)
        ∗ atPos ER (kcell (c, none)) 0 ∅ 0
        ∗ bufHas c cc0_stg0_0 (stg0 m c)
        ∗ bufHas c cc0_stg1_0 (stg1 m c)
        ∗ bufHas c cc0_stg2_0 (stg2 m c)
        ∗ bufHas c cc0_stg3_0 (stg3 m c)
        ∗ bufHas c cc0_stg4_0 (stg4 m c)
        ∗ bufHas (F := F) c cc0_scratch0 f0
        ∗ bufHas (F := F) c cc0_scratch1 f1
        ∗ bufHas (F := F) c cc0_scratch2 f2
        ∗ bufHas (F := F) c cc0_scratch3 f3
        ∗ bufHas (F := F) c cc0_scratch5 f5
        ∗ bufHas (F := F) c cc0_scratch6 f6
        ∗ dutyTok ER (kcell (pr c 0, none)) 0 (rv 0)
        ∗ dutyTok ER (kcell (pr c 1, none)) 0 (rv 1)
        ∗ dutyTok ER (kcell (pr c 2, none)) 0 (rv 2)
        ∗ tk (F := F) c 0 1 0
        ∗ tk (F := F) c 2 3 0
        ∗ tk (F := F) c 0 1 1
        ∗ tk (F := F) c 2 3 1
        ∗ tk (F := F) c 0 1 2
        ∗ tk (F := F) c 2 3 2
        ∗ cr (F := F) c 1 0
        ∗ cr (F := F) c 3 0
        ∗ cr (F := F) c 1 1
        ∗ cr (F := F) c 3 1
        ∗ cr (F := F) c 1 2
        ∗ cr (F := F) c 3 2
        ∗ pos (F := F) c 1 0 0
        ∗ pos (F := F) c 3 0 0
        ∗ pos (F := F) c 1 1 0
        ∗ pos (F := F) c 3 1 0
        ∗ pos (F := F) c 1 2 0
        ∗ pos (F := F) c 3 2 0)
      ⊢ iprop((iprop(due (F := F) c (dues2 c)
        ∗ atPos ER (kcell (c, none)) 1 ∅ 0
        ∗ bufHas c cc0_stg0_0 (stg0 m c)
        ∗ bufHas c cc0_stg1_0 (stg1 m c)
        ∗ bufHas c cc0_stg2_0 (stg2 m c)
        ∗ bufHas c cc0_stg3_0 (stg3 m c)
        ∗ bufHas c cc0_stg4_0 (stg4 m c)
        ∗ own (blkVj ksM c) c fullShare (KSc m c)
        ∗ own (blkVj vsM c) c fullShare (VSc m c)
        ∗ bufHas c cc0_scratch2 (KRc m c)
        ∗ bufHas c cc0_scratch3 (VRc m c)
        ∗ own (F := F) (slotRj rsM c) c fullShare f5
        ∗ own (F := F) (slotRj agM c) c fullShare f6
        ∗ (∃ f, own (F := F) (slotRj rsM c) (pr c 0) fullShare f)
        ∗ (∃ f, own (F := F) (slotRj agM c) (pr c 0) fullShare f)
        ∗ (∃ f, own (F := F) (slotRj rsM c) (pr c 1) fullShare f)
        ∗ (∃ f, own (F := F) (slotRj agM c) (pr c 1) fullShare f)
        ∗ (∃ f, own (F := F) (slotRj rsM c) (pr c 2) fullShare f)
        ∗ (∃ f, own (F := F) (slotRj agM c) (pr c 2) fullShare f)
        ∗ cr (F := F) c 0 0
        ∗ cr (F := F) c 2 0
        ∗ cr (F := F) c 0 1
        ∗ cr (F := F) c 2 1
        ∗ cr (F := F) c 0 2
        ∗ cr (F := F) c 2 2
        ∗ pos (F := F) c 1 0 1
        ∗ pos (F := F) c 3 0 1
        ∗ pos (F := F) c 1 1 1
        ∗ pos (F := F) c 3 1 1
        ∗ pos (F := F) c 1 2 1
        ∗ pos (F := F) c 3 2 1)
            -∗ run c (partsB c (num c) (q0c m c) (q1c m c) mask (k0_pay15 (stg4 m c)) (k0_pay16 (q0c m c)) (o264 (KRc m c)) (o266 (VRc m c)) (kAt (VRc m c) 1 0 0 (by decide))) Q)
          -∗ run c (parts28 (F := F)) Q) := by
  iintro ⟨#HR, #HL, HO, HC, HB, I0, I1, I2, I3, I4, B0, B1, B2, B3, B5, B6, S0, S1, S2, TK0, TV0, TK1, TV1, TK2, TV2, C10, C30, C11, C31, C12, C32, P10, P30, P11, P31, P12, P32⟩ Hk
  have eKR : bufHas c cc0_scratch2 f2 = _ := parts_KR c fullShare f2
  have eVR : bufHas c cc0_scratch3 f3 = _ := parts_VR c fullShare f3
  have eRS : bufHas c cc0_scratch5 f5 = _ := parts_R c fullShare f5
  have eAG : bufHas c cc0_scratch6 f6 = _ := parts_A c fullShare f6
  ihave B2 := (Entails.of_eq eKR) $$ B2
  icases B2 with ⟨B2, B20, B21, B22⟩
  ihave B3 := (Entails.of_eq eVR) $$ B3
  icases B3 with ⟨B3, B30, B31, B32⟩
  ihave B5 := (Entails.of_eq eRS) $$ B5
  icases B5 with ⟨B5, B50, B51, B52⟩
  ihave B6 := (Entails.of_eq eAG) $$ B6
  icases B6 with ⟨B6, B60, B61, B62⟩
  ihave G0 := (landing_mk (F := F) c (pr c 0) f2 f3 f5 f6) $$ [B20 B30 B50 B60]
  · iframe
  ihave G1 := (landing_mk (F := F) c (pr c 1) f2 f3 f5 f6) $$ [B21 B31 B51 B61]
  · iframe
  ihave G2 := (landing_mk (F := F) c (pr c 2) f2 f3 f5 f6) $$ [B22 B32 B52 B62]
  · iframe
  unfold parts28
  iapply (seq c)
  iapply (part1 m K c) $$ [HO S0 G0 S1 G1 S2 G2 HC HB I2 I3]
  · iframe; iframe #
  iintro ⟨HO, HB, G0, G1, G2, I2, I3⟩
  try dsimp only
  unfold landing
  icases G0 with ⟨K0, V0, R0, A0⟩
  icases G1 with ⟨K1, V1, R1, A1⟩
  icases G2 with ⟨K2, V2, R2, A2⟩
  iapply (seq c)
  iapply (part2 m c) $$ [B0 B1 B2 B3]
  · isplitl [B0]; · iexists f0; iexact B0
    isplitl [B1]; · iexists f1; iexact B1
    isplitl [B2]; · iexists f2; iexact B2
    iexists f3; iexact B3
  iintro ⟨B0, B1, B2, B3⟩
  try dsimp only
  ihave B0 := (Entails.of_eq (split_K m c)) $$ B0
  icases B0 with ⟨B0, SK0, SK1, SK2⟩
  ihave B1 := (Entails.of_eq (split_V m c)) $$ B1
  icases B1 with ⟨B1, SV0, SV1, SV2⟩
  unfold dues1
  iapply (seq c)
  iapply (part3 m K c _ _ _) $$ [HO SK0 K0 TK0 SV0 V0 TV0 SK1 K1 TK1]
  · unfold goK goV; iframe; iexact HR
  iintro ⟨HO, CK0, CV0, CK1⟩
  try dsimp only
  iapply (seq c)
  iapply (part4 m K c _ _ _ _) $$ [HO SV1 V1 TV1 SK2 K2 TK2]
  · unfold goK goV; iframe; iexact HR
  iintro ⟨HO, CV1, CK2⟩
  try dsimp only
  iapply (seq c)
  iapply (part5 m K c _) $$ [HO SV2 V2 TV2 I0 I1]
  · unfold goV; iframe; iexact HR
  iintro ⟨HO, CV2, I0, I1⟩
  try dsimp only
  iapply (seq c)
  iapply (part6 c)
  try dsimp only
  iapply (seq c)
  iapply (part7 m K c) $$ [HO C10 P10 C30 P30]
  · iframe; isplitr
    · iexact HR
    iexact HL
  iintro ⟨HO, ⟨P10, X10⟩, P30, X30⟩
  try dsimp only
  iapply (seq c)
  iapply (part8 m K c _ _ _) $$ [HO C11 P11 C31 P31 C12 P12]
  · iframe; isplitr
    · iexact HR
    iexact HL
  iintro ⟨HO, ⟨P11, X11⟩, ⟨P31, X31⟩, ⟨P12, X12⟩⟩
  try dsimp only
  iapply (seq c)
  iapply (part9 m K c _) $$ [HO C32 P32 B2 X10 X11 X12 B3 X30 X31 I4]
  · iframe; isplitr
    · iexact HR
    iexact HL
  iintro ⟨HO, P32, HK, HV, I4⟩
  try dsimp only
  iapply Hk
  iframe

/-- The heads. -/
theorem heads {Q : _ → sProp 𝕄} (f : TR F) :
    iprop(bufHas c cc0_scratch2 (KRc m c) ∗ bufHas c cc0_scratch3 (VRc m c) ∗ bufHas c cc0_scratch4 f)
      ⊢ iprop((iprop(bufHas c cc0_scratch2 (KRc m c) ∗ bufHas c cc0_scratch3 (VRc m c) ∗ bufHas c cc0_scratch4 (most m c f))
            -∗ run c (partsC c (num c) (o558 (q1c m c) (KRc m c) (VRc m c) (stg4 m c)) (o563 (q1c m c) (KRc m c) (VRc m c) (stg4 m c))) Q)
          -∗ run c (partsB c (num c) (q0c m c) (q1c m c) mask (k0_pay15 (stg4 m c)) (k0_pay16 (q0c m c)) (o264 (KRc m c)) (o266 (VRc m c)) (kAt (VRc m c) 1 0 0 (by decide))) Q) := by
  iintro ⟨HK, HV, HP⟩ Hk
  unfold most partsB
  iapply (seq c)
  iapply (part10 c (q0c m c) (KRc m c) (VRc m c)) $$ [HK HV]
  · iframe
  iintro ⟨HK, HV⟩
  try dsimp only
  iapply (seq c)
  iapply (part11 c (q0c m c) (KRc m c) (VRc m c)) $$ [HK HV]
  · iframe
  iintro ⟨HK, HV⟩
  try dsimp only
  iapply (seq c)
  iapply (part12 c (q0c m c) (KRc m c) (VRc m c)) $$ [HK HV]
  · iframe
  iintro ⟨HK, HV⟩
  try dsimp only
  iapply (seq c)
  iapply (part13 c (q0c m c) (KRc m c) (VRc m c)) $$ [HK HV]
  · iframe
  iintro ⟨HK, HV⟩
  try dsimp only
  iapply (seq c)
  iapply (part14 c (q0c m c) (KRc m c) (VRc m c) (stg4 m c) _) $$ [HK HV HP]
  · iframe
  iintro ⟨HK, HV, HP⟩
  try dsimp only
  iapply (seq c)
  iapply (part15 c (q0c m c) (q1c m c) (KRc m c) (VRc m c) (stg4 m c) _) $$ [HK HV HP]
  · iframe
  iintro ⟨HK, HV, HP⟩
  try dsimp only
  iapply (seq c)
  iapply (part16 c (q1c m c) (KRc m c) (VRc m c)) $$ [HK HV]
  · iframe
  iintro ⟨HK, HV⟩
  try dsimp only
  iapply (seq c)
  iapply (part17 c (q1c m c) (KRc m c) (VRc m c)) $$ [HK HV]
  · iframe
  iintro ⟨HK, HV⟩
  try dsimp only
  iapply (seq c)
  iapply (part18 c (q1c m c) (KRc m c) (VRc m c)) $$ [HK HV]
  · iframe
  iintro ⟨HK, HV⟩
  try dsimp only
  iapply (seq c)
  iapply (part19 c (q1c m c) (KRc m c) (VRc m c)) $$ [HK HV]
  · iframe
  iintro ⟨HK, HV⟩
  try dsimp only
  iapply (seq c)
  iapply (part20 c (q1c m c) (KRc m c) (VRc m c) (stg4 m c) _) $$ [HK HV HP]
  · iframe
  iintro ⟨HK, HV, HP⟩
  try dsimp only
  iapply Hk
  iframe

/-- The body after the heads. -/
theorem after {Q : _ → sProp 𝕄} (f4 f5 f6 : TR F) :
    iprop(records m K ∗ levAts L lv ∗ due (F := F) c (dues2 c)
        ∗ bufHas c cc0_scratch4 (most m c f4)
        ∗ (∃ f, bufHas (F := F) c cc0_stg5_0 f)
        ∗ own (F := F) (slotRj rsM c) c fullShare f5
        ∗ own (F := F) (slotRj agM c) c fullShare f6
        ∗ own (blkVj ksM c) c fullShare (KSc m c)
        ∗ own (blkVj vsM c) c fullShare (VSc m c)
        ∗ (∃ f, own (F := F) (slotRj rsM c) (pr c 0) fullShare f)
        ∗ (∃ f, own (F := F) (slotRj agM c) (pr c 0) fullShare f)
        ∗ (∃ f, own (F := F) (slotRj rsM c) (pr c 1) fullShare f)
        ∗ (∃ f, own (F := F) (slotRj agM c) (pr c 1) fullShare f)
        ∗ (∃ f, own (F := F) (slotRj rsM c) (pr c 2) fullShare f)
        ∗ (∃ f, own (F := F) (slotRj agM c) (pr c 2) fullShare f)
        ∗ cr (F := F) c 0 0
        ∗ cr (F := F) c 2 0
        ∗ cr (F := F) c 0 1
        ∗ cr (F := F) c 2 1
        ∗ cr (F := F) c 0 2
        ∗ cr (F := F) c 2 2
        ∗ tk (F := F) c 4 5 0
        ∗ tk (F := F) c 6 7 0
        ∗ tk (F := F) c 4 5 1
        ∗ tk (F := F) c 6 7 1
        ∗ tk (F := F) c 4 5 2
        ∗ tk (F := F) c 6 7 2
        ∗ cr (F := F) c 5 0
        ∗ cr (F := F) c 7 0
        ∗ cr (F := F) c 5 1
        ∗ cr (F := F) c 7 1
        ∗ cr (F := F) c 5 2
        ∗ cr (F := F) c 7 2
        ∗ pos (F := F) c 0 0 0
        ∗ pos (F := F) c 2 0 0
        ∗ pos (F := F) c 4 0 0
        ∗ pos (F := F) c 5 0 0
        ∗ pos (F := F) c 6 0 0
        ∗ pos (F := F) c 7 0 0
        ∗ pos (F := F) c 0 1 0
        ∗ pos (F := F) c 2 1 0
        ∗ pos (F := F) c 4 1 0
        ∗ pos (F := F) c 5 1 0
        ∗ pos (F := F) c 6 1 0
        ∗ pos (F := F) c 7 1 0
        ∗ pos (F := F) c 0 2 0
        ∗ pos (F := F) c 2 2 0
        ∗ pos (F := F) c 4 2 0
        ∗ pos (F := F) c 5 2 0
        ∗ pos (F := F) c 6 2 0
        ∗ pos (F := F) c 7 2 0)
      ⊢ iprop((iprop(due (F := F) c []
        ∗ bufHas c cc0_stg5_0 (outc m)
        ∗ bufHas c cc0_scratch0 (KSc m c)
        ∗ bufHas c cc0_scratch1 (VSc m c)
        ∗ bufHas c cc0_scratch4 (PCc m c)
        ∗ bufHas c cc0_scratch5 (RSc m c)
        ∗ bufHas c cc0_scratch6 (AGc m)
        ∗ pos (F := F) c 0 0 1
        ∗ pos (F := F) c 2 0 1
        ∗ pos (F := F) c 4 0 1
        ∗ pos (F := F) c 5 0 1
        ∗ pos (F := F) c 6 0 1
        ∗ pos (F := F) c 7 0 1
        ∗ pos (F := F) c 0 1 1
        ∗ pos (F := F) c 2 1 1
        ∗ pos (F := F) c 4 1 1
        ∗ pos (F := F) c 5 1 1
        ∗ pos (F := F) c 6 1 1
        ∗ pos (F := F) c 7 1 1
        ∗ pos (F := F) c 0 2 1
        ∗ pos (F := F) c 2 2 1
        ∗ pos (F := F) c 4 2 1
        ∗ pos (F := F) c 5 2 1
        ∗ pos (F := F) c 6 2 1
        ∗ pos (F := F) c 7 2 1) -∗ Q ⟨⟩)
          -∗ run c (partsC c (num c) (o558 (q1c m c) (KRc m c) (VRc m c) (stg4 m c)) (o563 (q1c m c) (KRc m c) (VRc m c) (stg4 m c))) Q) := by
  have hg := puts_PC m c f4
  iintro ⟨#HR, #HL, HO, HP, I5, B5, B6, B0, B1, R0, A0, R1, A1, R2, A2, CK0, CV0, CK1, CV1, CK2, CV2, TR0, TA0, TR1, TA1, TR2, TA2, C50, C70, C51, C71, C52, C72, P00, P20, P40, P50, P60, P70, P01, P21, P41, P51, P61, P71, P02, P22, P42, P52, P62, P72⟩ Hk
  icases I5 with ⟨%f, I5⟩
  unfold partsC
  iapply (seq c)
  iapply (part21 m c _ _ _ hg) $$ [HP B5]
  · isplitl [HP]; · iexact HP
    iexists f5; iexact B5
  iintro ⟨HP, B5⟩
  try dsimp only
  ihave HP := (Entails.of_eq (split_P m c)) $$ HP
  icases HP with ⟨B4, SP0, SP1, SP2⟩
  unfold dues2
  iapply (seq c)
  iapply (part22 m K c _) $$ [HO SP0 R0 TR0 SP1 R1 TR1 SP2 R2 TR2]
  · unfold goP; iframe; iexact HR
  iintro ⟨HO, CP0, CP1, CP2⟩
  try dsimp only
  iapply (seq c)
  iapply (part23 m K c _ _) $$ [HO C50 P50 C51 P51 C52 P52]
  · iframe; isplitr
    · iexact HR
    iexact HL
  iintro ⟨HO, ⟨P50, X50⟩, ⟨P51, X51⟩, ⟨P52, X52⟩⟩
  try dsimp only
  ihave B5 := (Entails.of_eq (split_R m c).symm) $$ [B5 X50 X51 X52]
  · iframe
  unfold dues3
  iapply (seq c)
  iapply (part24 m K c _) $$ [HO B5 B6 A0 TA0 A1 TA1]
  · isplitr; · iexact HR
    isplitl [HO]; · iexact HO
    isplitl [B5]; · iexact B5
    isplitl [B6]; · iexists f6; iexact B6
    iframe
  iintro ⟨HO, CA0, CA1, B5, B6, SA2⟩
  try dsimp only
  iapply (seq c)
  iapply (part25 m K c) $$ [HO SA2 A2 TA2 C70 P70]
  · unfold goA; iframe; isplitr
    · iexact HR
    iexact HL
  iintro ⟨HO, CA2, P70, X70⟩
  try dsimp only
  iapply (seq c)
  iapply (part26 m K c) $$ [HO C71 P71 C72 P72 CK0 P00 B6 X70 I5]
  · iframe; isplitr
    · iexact HR
    isplitr
    · iexact HL
    iexists f; iexact I5
  iintro ⟨HO, P71, P72, ⟨P00, X00⟩, B6, X70, X71, X72, I5⟩
  try dsimp only
  iapply (seq c)
  iapply (part27 m K c) $$ [HO CV0 P20 CK1 P01 CV1 P21 CK2 P02]
  · iframe; isplitr
    · iexact HR
    iexact HL
  iintro ⟨HO, ⟨P20, X20⟩, ⟨P01, X01⟩, ⟨P21, X21⟩, ⟨P02, X02⟩⟩
  try dsimp only
  iapply (seq c)
  iapply (part28 m K c) $$ [HO CV2 P22 CP0 P40 CP1 P41 CP2 P42 CA0 P60]
  · iframe; isplitr
    · iexact HR
    iexact HL
  iintro ⟨HO, ⟨P22, X22⟩, ⟨P40, X40⟩, ⟨P41, X41⟩, ⟨P42, X42⟩, ⟨P60, X60⟩⟩
  try dsimp only
  simp only [Prog.lift, Prog.bind_op, Prog.bind_ret, Prog.pure_eq_ret]
  iapply (wait_at m K c 6 1 _ (above0 _) rfl (k0_off3_eq c 1) (cred_slotR_A _ _)) $$ [HO CA1 P61]
  · iframe; isplitr
    · iexact HR
    iexact HL
  iintro ⟨HO, P61, X61⟩
  iapply (wait_at m K c 6 2 _ (above0 _) rfl (k0_off3_eq c 2) (cred_slotR_A _ _)) $$ [HO CA2 P62]
  · iframe; isplitr
    · iexact HR
    iexact HL
  iintro ⟨HO, P62, X62⟩
  iapply run_ret
  iapply Hk
  ihave B0 := (Entails.of_eq (split_K m c).symm) $$ [B0 X00 X01 X02]
  · iframe
  ihave B1 := (Entails.of_eq (split_V m c).symm) $$ [B1 X20 X21 X22]
  · iframe
  ihave B4 := (Entails.of_eq (split_P m c).symm) $$ [B4 X40 X41 X42]
  · iframe
  ihave B6 := (Entails.of_eq (quarters6 m c).symm) $$ [B6 X60 X61 X62]
  · iframe
  ihave B6 := (Entails.of_eq (split_A m c).symm) $$ [B6 X70 X71 X72]
  · iframe
  iframe

/-- The body at a device: with its tokens, credits and places, its buffers and the staged operands, it runs to the end
and leaves the result in the staged result. -/
theorem body {Q : _ → sProp 𝕄} :
    iprop(records m K ∗ levAts L lv ∗ due (F := F) c (dues c)
        ∗ (kit (F := F) c 0 ∗ kit (F := F) c 1 ∗ kit (F := F) c 2)
        ∗ cred (tallyAt (kcell (c, none)) () 3) ∗ atPos ER (kcell (c, none)) 0 ∅ 0
        ∗ (places (F := F) c 0 0 ∗ places (F := F) c 1 0 ∗ places (F := F) c 2 0)
        ∗ operands m c ∗ (∃ f, bufHas (F := F) c cc0_stg5_0 f) ∗ scratch (F := F) c)
      ⊢ iprop(((due (F := F) c [] ∗ atPos ER (kcell (c, none)) 1 ∅ 0
            ∗ (places (F := F) c 0 1 ∗ places (F := F) c 1 1 ∗ places (F := F) c 2 1)
            ∗ operands m c ∗ bufHas c cc0_stg5_0 (outc m) ∗ scratch (F := F) c) -∗ Q ⟨⟩)
          -∗ run c (onBufs (cc0_body (F := F))) Q) := by
  rw [body_eq]
  unfold kit places operands scratch
  iintro ⟨#HR, #HL, HO, ⟨⟨S0, TK0, TV0, TR0, TA0, C10, C30, C50, C70⟩, ⟨S1, TK1, TV1, TR1, TA1, C11, C31, C51, C71⟩, ⟨S2, TK2, TV2, TR2, TA2, C12, C32, C52, C72⟩⟩, HC, HB, ⟨⟨P00, P10, P20, P30, P40, P50, P60, P70⟩, ⟨P01, P11, P21, P31, P41, P51, P61, P71⟩, ⟨P02, P12, P22, P32, P42, P52, P62, P72⟩⟩, ⟨I0, I1, I2, I3, I4⟩, I5, ⟨⟨%f0, B0⟩, ⟨%f1, B1⟩, ⟨%f2, B2⟩, ⟨%f3, B3⟩, ⟨%f4, HP⟩, ⟨%f5, B5⟩, ⟨%f6, B6⟩⟩⟩ Hk
  iapply (before m K c f0 f1 f2 f3 f5 f6) $$ [HO HC HB I0 I1 I2 I3 I4 B0 B1 B2 B3 B5 B6 S0 S1 S2 TK0 TV0 TK1 TV1 TK2 TV2 C10 C30 C11 C31 C12 C32 P10 P30 P11 P31 P12 P32]
  · iframe; isplitr
    · iexact HR
    iexact HL
  iintro ⟨HO, HB, I0, I1, I2, I3, I4, B0, B1, HK, HV, B5, B6, R0, A0, R1, A1, R2, A2, CK0, CV0, CK1, CV1, CK2, CV2, P10, P30, P11, P31, P12, P32⟩
  iapply (heads m c f4) $$ [HK HV HP]
  · iframe
  iintro ⟨HK, HV, HP⟩
  iapply (after m K c f4 f5 f6) $$ [HO HP I5 B5 B6 B0 B1 R0 A0 R1 A1 R2 A2 CK0 CV0 CK1 CV1 CK2 CV2 TR0 TA0 TR1 TA1 TR2 TA2 C50 C70 C51 C71 C52 C72 P00 P20 P40 P50 P60 P70 P01 P21 P41 P51 P61 P71 P02 P22 P42 P52 P62 P72]
  · iframe; isplitr
    · iexact HR
    iexact HL
  iintro ⟨HO, I5, B0, B1, B4, B5, B6, P00, P20, P40, P50, P60, P70, P01, P21, P41, P51, P61, P71, P02, P22, P42, P52, P62, P72⟩
  iapply Hk
  iframe
  isplitl [B0]; · iexists _; iexact B0
  isplitl [B1]; · iexists _; iexact B1
  isplitl [HK]; · iexists _; iexact HK
  isplitl [HV]; · iexists _; iexact HV
  isplitl [B4]; · iexists _; iexact B4
  isplitl [B5]; · iexists _; iexact B5
  iexists _; iexact B6

end Cert.KernelIdeal.Hand

end
-- ==== Proof.KernelIdeal.Ends.lean ====
/-
  What lies before and after the kernel's body on a device: the tokens dealt to the devices that pay, the credit
  each device starts with, and the semaphores' invariants taken back at the end.
-/
module

public import proofs.«01_k».proof.Proof.KernelIdeal.Body

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : Dev nD × CIx → ℕ) (c : Dev nD)

/-! ## A device's semaphores one after the other -/

theorem eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem three (Φ : Fin 3 → sProp 𝕄) : bigSep Finset.univ Φ = iprop(Φ 0 ∗ Φ 1 ∗ Φ 2) :=
  bigSep_univ_eq_bigSepL [0, 1, 2] (by decide) (by decide) Φ
theorem over_option {I : Type} [Fintype I] [DecidableEq I] (Φ : Option I → sProp 𝕄) :
    bigSep Finset.univ Φ = iprop(Φ none ∗ bigSep Finset.univ fun i => Φ (some i)) := by
  have e : (Finset.univ : Finset (Option I)).erase none = Finset.univ.map Function.Embedding.some := by
    ext x; cases x <;> simp
  refine (BI.bigSep_univ_split (none : Option I)).trans ?_
  rw [e, BI.bigSep_map]
  rfl
/-- The barrier, the eight semaphores with the device's own number, and the eight towards each partner. -/
theorem cells_eq (Φ : CIx → sProp 𝕄) :
    bigSep Finset.univ Φ = iprop(Φ none ∗ (bigSep Finset.univ fun a : Fin 8 => Φ (some (a, c)))
      ∗ (bigSep Finset.univ fun a : Fin 8 => Φ (some (a, pr c 0))) ∗ (bigSep Finset.univ fun a : Fin 8 => Φ (some (a, pr c 1)))
      ∗ (bigSep Finset.univ fun a : Fin 8 => Φ (some (a, pr c 2)))) := by
  rw [over_option, BI.bigSep_univ_prod, bigSep_congr (s := Finset.univ) (fun (a : Fin 8) _ => around (PROP := fun j => Φ (some (a, j))) c),
    bigSep_sep', bigSep_sep', bigSep_sep']

/-! ## The tokens, dealt to who pays -/

/-- The partner through which device `d` reaches device `j`. -/
def towards (d j : Fin 4) : Fin 3 := if pr d 0 = j then 0 else if pr d 1 = j then 1 else 2
/-- What device `c` pays with its partner `r`: that partner's barrier, its own sending semaphores, the partner's receiving ones. -/
def pays : Dev nD × Fin 3 × Option (Fin 8) → (Dev nD × CIx) × Fin 3
  | (c, r, none) => ((pr c r, none), rv r)
  | (c, r, some a) => if a.val % 2 = 0 then ((c, some (a, pr c r)), 0) else ((pr c r, some (a, c)), 0)
/-- Who pays a duty. -/
def payer : (Dev nD × CIx) × Fin 3 → Dev nD × Fin 3 × Option (Fin 8)
  | ((d, none), s) => (pr d s, rv s, none)
  | ((d, some (a, j)), _) => if a.val % 2 = 0 then (d, towards d j, some a) else (j, towards j d, some a)
theorem payer_pays : ∀ x, payer (pays x) = x := by decide +kernel
theorem pays_injective : Function.Injective pays := fun x y h => by rw [← payer_pays x, h, payer_pays]

/-- The tokens device `c` pays with. -/
def toks (c : Dev nD) : sProp 𝕄 :=
  bigSep Finset.univ fun r : Fin 3 => bigSep Finset.univ fun a : Option (Fin 8) =>
    dutyTok ER (kcell (pays (c, r, a)).1) 0 (pays (c, r, a)).2
/-- All tokens, grouped by who pays; those that nobody uses are dropped. -/
theorem deal : (bigSep Finset.univ fun x : (Dev nD × CIx) × Fin 3 => (dutyTok ER (kcell x.1) 0 x.2 : sProp 𝕄))
    ⊢ bigSep Finset.univ fun c : Dev nD => toks (F := F) c := by
  refine (bigSep_subset (Finset.subset_univ (Finset.univ.map ⟨pays, pays_injective⟩))).trans ?_
  rw [BI.bigSep_map, BI.bigSep_univ_prod]
  refine bigSep_mono fun c _ => ?_
  rw [BI.bigSep_univ_prod]
  exact Entails.refl _
/-- A device's tokens towards one partner, pair by pair. -/
theorem toks_pairs (r : Fin 3) :
    (bigSep Finset.univ fun a : Option (Fin 8) => (dutyTok ER (kcell (pays (c, r, a)).1) 0 (pays (c, r, a)).2 : sProp 𝕄))
      ⊢ iprop(dutyTok ER (kcell (pr c r, none)) 0 (rv r) ∗ tk (F := F) c 0 1 r ∗ tk (F := F) c 2 3 r ∗ tk (F := F) c 4 5 r ∗ tk (F := F) c 6 7 r) := by
  rw [over_option, eight]
  show iprop(dutyTok ER (kcell (pr c r, none)) 0 (rv r)
      ∗ dutyTok ER (kcell (c, some (0, pr c r))) 0 0 ∗ dutyTok ER (kcell (pr c r, some (1, c))) 0 0
      ∗ dutyTok ER (kcell (c, some (2, pr c r))) 0 0 ∗ dutyTok ER (kcell (pr c r, some (3, c))) 0 0
      ∗ dutyTok ER (kcell (c, some (4, pr c r))) 0 0 ∗ dutyTok ER (kcell (pr c r, some (5, c))) 0 0
      ∗ dutyTok ER (kcell (c, some (6, pr c r))) 0 0 ∗ dutyTok ER (kcell (pr c r, some (7, c))) 0 0) ⊢ _
  unfold tk
  iintro ⟨HB, H0, H1, H2, H3, H4, H5, H6, H7⟩
  iframe

/-! ## The credit at the start -/

/-- How often a semaphore of `c` is paid from outside by the devices' own promises. -/
def times (c : Dev nD) : CIx → ℕ
  | none => 3
  | some (a, j) => if a.val % 2 = 1 ∧ j ≠ c then 1 else 0
theorem owe_count (l : List (Dev nD × CIx)) (x : Dev nD × CIx) : owe l (kcell x) () = l.count x * amt x.2 := by
  induction l with
  | nil => rw [List.count_nil, Nat.zero_mul]; rfl
  | cons y l ih =>
    unfold owe
    rw [Pi.add_apply, Finsupp.add_apply, ih, tallyAt_apply, List.count_cons]
    by_cases h : y = x
    · subst h
      rw [if_pos ⟨rfl, rfl⟩, if_pos (by simp), Nat.add_mul, Nat.one_mul]
    · rw [if_neg (fun e => h (kcell_injective e.1).symm), if_neg (by simpa using h), Nat.add_zero, Nat.add_zero]
theorem count_dues : ∀ (c : Dev nD) (k : CIx), (∑ d : Dev nD, (dues d).count (c, k)) = times c k := by decide +kernel
theorem launch_cell (k : CIx) :
    tallyOn (kcell (c, k)) (launchCredit (Pipeline.owing fun d => owe (dues d)) 0 (kcell (c, k)))
      = (tallyAt (kcell (c, k)) () (times c k * amt k) : CellTallies nD τ sig Unit) := by
  unfold tallyAt; refine congrArg _ (Finsupp.ext fun u => ?_); cases u
  rw [Pipeline.launchCredit_owing, Finsupp.single_eq_same, Finset.sum_congr rfl fun d _ => owe_count (dues d) (c, k),
    ← Finset.sum_mul, count_dues]

/-- The credit to wait for what one partner sends. -/
def credits (r : Fin 3) : sProp 𝕄 := iprop(cr (F := F) c 1 r ∗ cr (F := F) c 3 r ∗ cr (F := F) c 5 r ∗ cr (F := F) c 7 r)
theorem credits_of (r : Fin 3) :
    (bigSep Finset.univ fun a : Fin 8 => (cred (tallyAt (kcell (c, some (a, pr c r))) () (times c (some (a, pr c r)) * amt (some (a, pr c r)))) : sProp 𝕄))
      ⊢ credits c r := by
  have odd (a : Fin 8) (h : a.val % 2 = 1) : times c (some (a, pr c r)) * amt (some (a, pr c r)) = amtA a := by
    have e : times c (some (a, pr c r)) = 1 := if_pos ⟨h, pr_ne c r⟩
    rw [e, Nat.one_mul]; rfl
  rw [eight, odd 1 rfl, odd 3 rfl, odd 5 rfl, odd 7 rfl]
  unfold credits cr
  iintro ⟨-, H1, -, H3, -, H5, -, H7⟩
  iframe
/-- The launch's credit is what the body waits with. -/
theorem creds : (Pipeline.launchCred (fun d => owe (dues d)) c : sProp 𝕄)
    ⊢ iprop(cred (tallyAt (kcell (c, none)) () 3) ∗ credits c 0 ∗ credits c 1 ∗ credits c 2) := by
  unfold Pipeline.launchCred
  refine (bigSep_subset (Finset.subset_univ (Finset.univ.map ⟨csem, csem_injective⟩))).trans ?_
  rw [BI.bigSep_map]
  show (bigSep Finset.univ fun k : CIx => (cred (tallyOn (kcell (c, k)) (launchCredit (Pipeline.owing fun d => owe (dues d)) 0 (kcell (c, k)))) : sProp 𝕄)) ⊢ _
  rw [bigSep_congr (s := Finset.univ) (fun (k : CIx) _ => congrArg cred (launch_cell c k)), cells_eq c]
  iintro ⟨HB, -, H0, H1, H2⟩
  isplitl [HB]; · iexact HB
  isplitl [H0]; · iapply (credits_of c 0); iexact H0
  isplitl [H1]; · iapply (credits_of c 1); iexact H1
  iapply (credits_of c 2); iexact H2

/-! ## The semaphores at the end -/

/-- The round at which a semaphore of `c` stands when the body is done. -/
def last (c : Dev nD) : CIx → ℕ
  | none => 1
  | some (_, j) => if j = c then 0 else 1
theorem duties_last (k : CIx) : ∀ r, last c k ≤ r → (sched m).duties (kcell (c, k)) r = ∅ := fun r h => by
  rcases k with _ | ⟨a, j⟩
  · exact duties_later m _ r h
  · by_cases e : j = c
    · subst e; exact duties_own m j a r
    · exact duties_later m _ r ((if_neg e : last c (some (a, j)) = 1) ▸ h)
/-- The invariants are taken back: every semaphore of the device stands at zero. -/
theorem close : iprop(records m K ∗ bigSep Finset.univ fun k : CIx => atPos ER (kcell (c, k)) (last c k) ∅ 0)
    ⊢ (|={Set.univ}=> bigSep Finset.univ fun k : CIx => semVal (kcell (c, k)) 0 : sProp 𝕄) :=
  (bigSep_with_persistent (R := records m K) fun k _ =>
    (sep_mono_left (records_inv m K (c, k))).trans
      (Rounds.cell_close ER (sched m) (Set.mem_univ (K (c, k))) (fun h => h) (duties_last m c k))).trans (bigSep_fupd _ _)
/-- The places before the body, sorted by partner; -/
theorem places_before : (bigSep Finset.univ fun k : CIx => (atPos ER (kcell (c, k)) 0 ∅ 0 : sProp 𝕄))
    ⊢ iprop(atPos ER (kcell (c, none)) 0 ∅ 0 ∗ (bigSep Finset.univ fun a : Fin 8 => atPos ER (kcell (c, some (a, c))) 0 ∅ 0)
      ∗ places c 0 0 ∗ places c 1 0 ∗ places c 2 0) := by
  rw [cells_eq c, eight fun a => atPos ER (kcell (c, some (a, pr c 0))) 0 ∅ 0, eight fun a => atPos ER (kcell (c, some (a, pr c 1))) 0 ∅ 0,
    eight fun a => atPos ER (kcell (c, some (a, pr c 2))) 0 ∅ 0]
  exact Entails.refl _
/-- and after it. -/
theorem places_after : iprop(atPos ER (kcell (c, none)) 1 ∅ 0 ∗ (bigSep Finset.univ fun a : Fin 8 => atPos ER (kcell (c, some (a, c))) 0 ∅ 0)
      ∗ places (F := F) c 0 1 ∗ places (F := F) c 1 1 ∗ places (F := F) c 2 1)
    ⊢ bigSep Finset.univ fun k : CIx => (atPos ER (kcell (c, k)) (last c k) ∅ 0 : sProp 𝕄) := by
  have e (r : Fin 3) (a : Fin 8) : last c (some (a, pr c r)) = 1 := if_neg (pr_ne c r)
  have e' (a : Fin 8) : last c (some (a, c)) = 0 := if_pos rfl
  rw [cells_eq c]
  simp only [e, e']
  rw [eight fun a => atPos ER (kcell (c, some (a, pr c 0))) 1 ∅ 0, eight fun a => atPos ER (kcell (c, some (a, pr c 1))) 1 ∅ 0,
    eight fun a => atPos ER (kcell (c, some (a, pr c 2))) 1 ∅ 0]
  exact Entails.refl _

end Cert.KernelIdeal.Hand

end
-- ==== Proof.KernelIdeal.Points.lean ====
/-
  The kernel's one point as the pipeline sees it: what the body is handed, what it gives back, and that it does.
-/
module

public import proofs.«01_k».proof.Proof.KernelIdeal.Ends
public import proofs.«01_k».proof.Proof.Gen.KernelIdeal.Points

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
variable (K : Dev nD × CIx → ℕ) (c : Dev nD)

variable (ρ : Dev nD → PrngReg)

/-! ## The pipeline's proof data -/

/-- What device `c` keeps besides the shared facts: its places and the tokens it pays with. -/
def linear (c : Dev nD) : sProp 𝕄 :=
  iprop((bigSep Finset.univ fun k : CIx => atPos ER (kcell (c, k)) 0 ∅ 0) ∗ toks c)
/-- What a device starts the body with. -/
def start (c : Dev nD) : sProp 𝕄 :=
  iprop((∃ K, records m K ∗ linear c)
    ∗ (cred (tallyAt (kcell (c, none)) () 3) ∗ credits c 0 ∗ credits c 1 ∗ credits c 2) ∗ levAts L lv)
/-- What it ends with: its semaphores at zero. -/
def zeros (c : Dev nD) : sProp 𝕄 := bigSep Finset.univ fun k : CIx => semVal (kcell (c, k)) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => outc m
  Φ t := match t with
    | ⟨0, _⟩ => iprop(start m c ∗ scratch c)
    | ⟨_ + 1, _⟩ => iprop(zeros c ∗ scratch c)
  q _ := fullShare
  owed t := match t with
    | ⟨0, _⟩ => owe (dues c)
    | ⟨_ + 1, _⟩ => 0

theorem share_eq (c : Dev nD) (w : Fin cfg0.W) : (dats m ρ 0 c).share w = fullShare := by unfold Dat.share; split <;> rfl

theorem before_0 (t : Fin cfg0.N) (d) : (dats m ρ 0 c).before (0 : Fin 6) t d = stg0 m c := by
  unfold Dat.before; rw [if_pos (fetch0_0 t), fin_N0 t]; rfl
theorem before_1 (t : Fin cfg0.N) (d) : (dats m ρ 0 c).before (1 : Fin 6) t d = stg1 m c := by
  unfold Dat.before; rw [if_pos (fetch0_1 t), fin_N0 t]; rfl
theorem before_2 (t : Fin cfg0.N) (d) : (dats m ρ 0 c).before (2 : Fin 6) t d = stg2 m c := by
  unfold Dat.before; rw [if_pos (fetch0_2 t), fin_N0 t]; rfl
theorem before_3 (t : Fin cfg0.N) (d) : (dats m ρ 0 c).before (3 : Fin 6) t d = stg3 m c := by
  unfold Dat.before; rw [if_pos (fetch0_3 t), fin_N0 t]; rfl
theorem before_4 (t : Fin cfg0.N) (d) : (dats m ρ 0 c).before (4 : Fin 6) t d = stg4 m c := by
  unfold Dat.before; rw [if_pos (fetch0_4 t), fin_N0 t]; rfl

/-- A staging buffer at given contents, as the pipeline writes it. -/
abbrev staged (c : Dev nD) (b : Ref sig .tc) (X : b.ty.Contents (Elt F)) : sProp 𝕄 :=
  iprop(∃ f : Buf (Elt F) ((c : Thread nD τ).loc b), ⌜f = X⌝ ∗ bufHas c b f)
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]
theorem staged_intro (c : Dev nD) (b : Ref sig .tc) (f : b.ty.Contents (Elt F)) : bufHas c b f ⊢ staged (F := F) c b f := by
  iintro H; iexists f; isplitr; · (ipureintro; rfl)
  iexact H
theorem staged_elim (c : Dev nD) (b : Ref sig .tc) (f : b.ty.Contents (Elt F)) : staged (F := F) c b f ⊢ bufHas c b f := by
  iintro ⟨%g, %hg, H⟩; subst hg; iexact H
theorem staged_elim' {I : Type} (c : Dev nD) (b : Ref sig .tc) (f : I → b.ty.Contents (Elt F)) (g : b.ty.Contents (Elt F)) (h : ∀ d, f d = g) :
    (iprop(∃ d, staged (F := F) c b (f d)) : sProp 𝕄) ⊢ bufHas c b g := by
  iintro ⟨%d, H⟩; rw [h]; iapply (staged_elim c b g); iexact H

/-! ## The body's obligation -/

/-- What the pipeline hands the body, -/
def bodyPre (c : Dev nD) : sProp 𝕄 :=
  iprop((start m c ∗ scratch c) ∗ (dats m ρ 0 c).owesAt () t0_0.castSucc
    ∗ (∃ d, staged c cc0_stg0_0 ((dats m ρ 0 c).before (0 : Fin 6) t0_0 d))
    ∗ (∃ d, staged c cc0_stg1_0 ((dats m ρ 0 c).before (1 : Fin 6) t0_0 d))
    ∗ (∃ d, staged c cc0_stg2_0 ((dats m ρ 0 c).before (2 : Fin 6) t0_0 d))
    ∗ (∃ d, staged c cc0_stg3_0 ((dats m ρ 0 c).before (3 : Fin 6) t0_0 d))
    ∗ (∃ d, staged c cc0_stg4_0 ((dats m ρ 0 c).before (4 : Fin 6) t0_0 d))
    ∗ (∃ d, staged c cc0_stg5_0 ((dats m ρ 0 c).before (5 : Fin 6) t0_0 d)))
/-- and what it gets back. -/
def bodyPost (c : Dev nD) : sProp 𝕄 :=
  iprop((zeros c ∗ scratch c) ∗ (dats m ρ 0 c).owesAt () t0_0.succ
    ∗ staged c cc0_stg0_0 (stg0 m c) ∗ staged c cc0_stg1_0 (stg1 m c) ∗ staged c cc0_stg2_0 (stg2 m c)
    ∗ staged c cc0_stg3_0 (stg3 m c) ∗ staged c cc0_stg4_0 (stg4 m c) ∗ staged c cc0_stg5_0 (outc m))

theorem owed_start : (dats m ρ 0 c).owesAt () t0_0.castSucc ⊢ due c (dues c) := by
  unfold Dat.owesAt Pipeline.owesWithin due
  iintro ⟨%W, -, H⟩
  iexists W; iexact H
theorem owed_end : due c [] ⊢ (dats m ρ 0 c).owesAt () t0_0.succ := by
  unfold Dat.owesAt Pipeline.owesWithin due
  iintro ⟨%W, H⟩
  iexists W
  isplitr; · ipureintro; exact fun _ _ => Or.inl trivial
  iexact H

theorem kits : iprop(toks (F := F) c ∗ credits (F := F) c 0 ∗ credits (F := F) c 1 ∗ credits (F := F) c 2)
    ⊢ iprop(kit (F := F) c 0 ∗ kit (F := F) c 1 ∗ kit (F := F) c 2) := by
  have one (r : Fin 3) : iprop((bigSep Finset.univ fun a : Option (Fin 8) => (dutyTok ER (kcell (pays (c, r, a)).1) 0 (pays (c, r, a)).2 : sProp 𝕄)) ∗ credits (F := F) c r)
      ⊢ kit (F := F) c r := by
    refine (sep_mono_left (toks_pairs c r)).trans ?_
    unfold kit credits
    iintro ⟨⟨HB, H0, H2, H4, H6⟩, H1, H3, H5, H7⟩
    iframe
  unfold toks
  rw [three]
  iintro ⟨⟨T0, T1, T2⟩, C0, C1, C2⟩
  isplitl [T0 C0]; · iapply (one 0); isplitl [T0] <;> iassumption
  isplitl [T1 C1]; · iapply (one 1); isplitl [T1] <;> iassumption
  iapply (one 2); isplitl [T2] <;> iassumption

theorem body_run (c : Dev nD) : bodyPre m ρ c ⊢ run c (onBufs (cc0_body (F := F))) (fun _ => bodyPost m ρ c) := by
  unfold bodyPre start linear
  iintro ⟨⟨⟨⟨%K, #HR, Hat, Htok⟩, ⟨HcB, HC⟩, #Hlev⟩, Hscr⟩, Ho, H0, H1, H2, H3, H4, ⟨%d5, %f5, -, H5⟩⟩
  ihave Hdue := (owed_start m c ρ) $$ Ho
  ihave Hp := (places_before (F := F) c) $$ Hat
  icases Hp with ⟨HpB, Hself, Hpl⟩
  ihave Hk := (kits (F := F) c) $$ [Htok HC]
  · isplitl [Htok] <;> iassumption
  ihave H0 := (staged_elim' c cc0_stg0_0 _ (stg0 m c) (before_0 m c ρ t0_0)) $$ H0
  ihave H1 := (staged_elim' c cc0_stg1_0 _ (stg1 m c) (before_1 m c ρ t0_0)) $$ H1
  ihave H2 := (staged_elim' c cc0_stg2_0 _ (stg2 m c) (before_2 m c ρ t0_0)) $$ H2
  ihave H3 := (staged_elim' c cc0_stg3_0 _ (stg3 m c) (before_3 m c ρ t0_0)) $$ H3
  ihave H4 := (staged_elim' c cc0_stg4_0 _ (stg4 m c) (before_4 m c ρ t0_0)) $$ H4
  iapply (wp_fupd)
  iapply (body m K c) $$ [Hdue Hk HcB HpB Hpl H0 H1 H2 H3 H4 H5 Hscr]
  · isplitr; · iexact HR
    isplitr; · iexact Hlev
    isplitl [Hdue]; · iexact Hdue
    isplitl [Hk]; · iexact Hk
    isplitl [HcB]; · iexact HcB
    isplitl [HpB]; · iexact HpB
    isplitl [Hpl]; · iexact Hpl
    isplitl [H0 H1 H2 H3 H4]
    · unfold operands
      isplitl [H0]; · iexact H0
      isplitl [H1]; · iexact H1
      isplitl [H2]; · iexact H2
      isplitl [H3]; · iexact H3
      iexact H4
    isplitl [H5]; · iexists f5; iexact H5
    iexact Hscr
  iintro ⟨Hdue, HpB, Hpl, Hops, H5, Hscr⟩
  ihave Hat := (places_after (F := F) c) $$ [HpB Hself Hpl]
  · isplitl [HpB]; · iexact HpB
    isplitl [Hself] <;> iassumption
  imod (close m K c) $$ [Hat] with Hz
  · isplitr; · iexact HR
    iexact Hat
  imodintro
  unfold bodyPost operands zeros
  icases Hops with ⟨H0, H1, H2, H3, H4⟩
  isplitl [Hz Hscr]
  · isplitl [Hz] <;> iassumption
  isplitl [Hdue]; · iapply (owed_end m c ρ); iexact Hdue
  isplitl [H0]; · iapply (staged_intro c cc0_stg0_0 (stg0 m c)); iexact H0
  isplitl [H1]; · iapply (staged_intro c cc0_stg1_0 (stg1 m c)); iexact H1
  isplitl [H2]; · iapply (staged_intro c cc0_stg2_0 (stg2 m c)); iexact H2
  isplitl [H3]; · iapply (staged_intro c cc0_stg3_0 (stg3 m c)); iexact H3
  isplitl [H4]; · iapply (staged_intro c cc0_stg4_0 (stg4 m c)); iexact H4
  iapply (staged_intro c cc0_stg5_0 (outc m)); iexact H5

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  simp only [owns_staged]
  show bodyPre m ρ c ⊢ run c (onBufs (cc0_body (F := F))) (fun _ => bodyPost m ρ c)
  exact body_run m ρ c

end Cert.KernelIdeal.Hand

end
-- ==== Proof.KernelIdeal.Launch.lean ====
/-
  The launch: what each device is dealt, the pipeline's proof data, and the run of the four devices together.  At the
  end every device's result array holds `outc` of the launch memory, its arguments what they held, and every semaphore
  stands at zero.
-/
module

public import proofs.«01_k».proof.Proof.KernelIdeal.Points
public import Idealize.ShloMosaic.Lib.Pipeline.CollectiveSegs
public import Idealize.ShloMosaic.Lib.Pipeline.ValueKit.Geometry

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (ρ : Dev nD → PrngReg)

/-! ## What the launch deals -/

theorem ownSemFacts : Pipeline.OwnSemFacts cfg0.spec osem := by decide +kernel

def cellSet : Finset (GSem nD τ sig) := Finset.univ.map ⟨kcell, kcell_injective⟩
/-- A token's name. -/
def tokName (x : (Dev nD × CIx) × Fin 3) : GSem nD τ sig × ℕ × Fin 3 := (kcell x.1, 0, x.2)
theorem tokName_injective : Function.Injective tokName := fun x y h =>
  Prod.ext (kcell_injective (congrArg Prod.fst h)) (congrArg (fun t : GSem nD τ sig × ℕ × Fin 3 => t.2.2) h)
def tokSet : Finset (GSem nD τ sig × ℕ × Fin 3) := Finset.univ.map ⟨tokName, tokName_injective⟩
def u₀ : UU :=
  (initOf (Pipeline.cells cfgs cellOf_inj) (Pipeline.launchToks cfgs cellOf_inj), initOf cellSet tokSet)

/-- What device `c` is dealt: its semaphores' round states, its places, the records that round 0 is reached, its tokens. -/
def dealt (c : Dev nD) : sProp 𝕄 :=
  iprop((bigSep Finset.univ fun k : CIx => roundState ER (sched m) (kcell (c, k)) 0)
    ∗ (bigSep Finset.univ fun k : CIx => reached ER (kcell (c, k)) 0) ∗ linear c)
/-- What it holds once the invariants exist. -/
def ready (c : Dev nD) : sProp 𝕄 := iprop(∃ K, records m K ∗ linear c)

theorem by_device (Φ : GSem nD τ sig → sProp 𝕄) :
    bigSep cellSet Φ = bigSep Finset.univ fun c : Dev nD => bigSep Finset.univ fun k : CIx => Φ (kcell (c, k)) := by
  unfold cellSet; rw [BI.bigSep_map, BI.bigSep_univ_prod]; rfl
theorem by_payer : bigSep tokSet (fun x => (dutyTok ER x.1 x.2.1 x.2.2 : sProp 𝕄)) ⊢ bigSep Finset.univ fun c : Dev nD => toks (F := F) c := by
  unfold tokSet
  rw [BI.bigSep_map]
  exact deal
theorem fund : BI.own (ER (initOf cellSet tokSet)) ⊢ (|==> bigSep Finset.univ (dealt m) : sProp 𝕄) := by
  iintro HX
  imod (Rounds.fund ER (sched m) cellSet tokSet) $$ HX with ⟨Hst, Hr, Hat, Htok⟩
  imodintro
  ihave Hst := (Entails.of_eq (by_device fun g => roundState ER (sched m) g 0)) $$ Hst
  ihave Hat := (Entails.of_eq (by_device (F := F) fun g => atPos ER g 0 ∅ 0)) $$ Hat
  ihave Hr := (Entails.of_eq (by_device (F := F) fun g => reached ER g 0)) $$ Hr
  ihave Htok := (by_payer (F := F)) $$ Htok
  unfold dealt linear
  rw [bigSep_sep', bigSep_sep', bigSep_sep']
  isplitl [Hst]; · iexact Hst
  isplitl [Hr]; · iexact Hr
  isplitl [Hat] <;> iassumption

/-! ## The semaphores at zero -/

theorem unscoped_eq (c : Dev nD) : (unscopedSems0 c : sProp 𝕄) = semVal (kcell (c, none)) 0 := by
  unfold unscopedSems0; rw [bigSep_eq_bigSepL_of_eq [SemLoc.reg barS] (by decide) (by decide)]; rfl
theorem zeros_eq (c : Dev nD) : zeros c
    = iprop(unscopedSems0 c ∗ (Pipeline.ownSems0 (Ix := Unit) (Name := ℕ) (U := UU) (Lvl := ℕ) (Val := Elt F) (τ := τ) osem c : sProp 𝕄)) := by
  unfold zeros
  rw [over_option, unscoped_eq]
  rfl

/-- On one device, every semaphore's invariant is made. -/
theorem invariants (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : CIx => iprop(∃ κ : ℕ, cellInv ER (sched m) κ (kcell (c, k))))
          ∗ (bigSep Finset.univ fun k : CIx => reached ER (kcell (c, k)) 0) ∗ linear c) := by
  unfold dealt
  iintro ⟨Hos, Hus, Hst, Hr, Hlin⟩
  ihave Hv := (Entails.of_eq (zeros_eq (F := F) c).symm) $$ [Hos Hus]
  · isplitl [Hus] <;> iassumption
  imod (show iprop(zeros c ∗ bigSep Finset.univ fun k : CIx => roundState ER (sched m) (kcell (c, k)) 0)
      ⊢ (|={Set.univ}=> bigSep Finset.univ fun k : CIx => iprop(∃ κ : ℕ, cellInv ER (sched m) κ (kcell (c, k))) : sProp 𝕄) from by
        unfold zeros
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hr] <;> iassumption

/-- The devices' invariants together, one name for each, known to every device. -/
theorem shared :
    (bigSep Finset.univ fun c : Dev nD => iprop((bigSep Finset.univ fun k : CIx => iprop(∃ κ : ℕ, cellInv ER (sched m) κ (kcell (c, k))))
          ∗ (bigSep Finset.univ fun k : CIx => reached ER (kcell (c, k)) 0) ∗ linear c) : sProp 𝕄)
      ⊢ bigSep Finset.univ (ready m) := by
  rw [bigSep_sep', bigSep_sep', ← BI.bigSep_univ_prod (fun ck : Dev nD × CIx => iprop(∃ κ : ℕ, cellInv ER (sched m) κ (kcell ck))),
    ← BI.bigSep_univ_prod (fun ck : Dev nD × CIx => (reached ER (kcell ck) 0 : sProp 𝕄))]
  iintro ⟨HI, #HR, Hlin⟩
  ihave HK := (BI.bigSep_exists_pi Finset.univ (fun (ck : Dev nD × CIx) (κ : ℕ) => (cellInv ER (sched m) κ (kcell ck) : sProp 𝕄))) $$ HI
  icases HK with ⟨%K, #HI⟩
  iapply (bigSep_with_persistent (R := records m K) (Φ := fun c : Dev nD => linear (F := F) c) fun c _ => by
    unfold ready
    iintro ⟨#H, Hl⟩
    iexists K
    isplitr; · iexact H
    iexact Hl)
  isplitr
  · unfold records; isplitl; · iexact HI
    iexact HR
  iexact Hlin

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => invariants m c).trans (bigSep_fupd _ _)).trans (BI.fupd_mono (shared m))

/-! ## Entering and leaving the kernel -/

theorem start_intro (c : Dev nD) :
    iprop(Pipeline.unscopedRestP Pipeline.Prefetch.none cfg0.spec c (fun b => m ((c : Thread nD τ).loc b)) ∗ levAts L lv
        ∗ Pipeline.launchCred (fun d => owe (dues d)) c ∗ prngReg c (ρ c) ∗ ready m c)
      ⊢ |={Set.univ}=> iprop(start m c ∗ emp) := by
  iintro ⟨-, Hlev, Hcr, -, HG⟩
  ihave Hc := (creds (F := F) c) $$ Hcr
  imodintro
  unfold start ready
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  unfold scratch
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scratch c) from rfl, scopedRest0_eq, zeros_eq]
  unfold scratch
  iintro ⟨⟨Hu, Ho⟩, Hr⟩
  isplitl [Hu]; · iexact Hu
  isplitl [Ho]; · iexact Ho
  iexact Hr

/-- A staging semaphore is none of the kernel's own. -/
theorem lv_stage (c : Dev nD) (w : Fin cfg0.W) (s) : lv ((c : Thread nD τ), SemLoc.dma ((cfg0.win w).sem s)) () ≤ 0 := by
  have h : dec (SemLoc.dma ((cfg0.win w).sem s)) = none := by
    exact dec_none _ (by fin_cases w <;> fin_cases s <;> decide +kernel)
  unfold lv; dsimp only; rw [h]
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_list c _ (dues c) 0 (lv_stage c w s) (by revert c; decide +kernel)
    · exact mayWait_list c _ [] 0 (lv_stage c w s) (by decide)

/-! ## The run -/

/-- What a window's array holds at the end. -/
def finalA (c : Dev nD) (w : Fin cfg0.W) : Buf (Elt F) ((cfg0.win w).arr.view.loc (c : Thread nD τ)) := (dats m ρ 0 c).arrAt w cfg0.N

set_option maxRecDepth 8000 in
/-- Run on four devices from any memory with all semaphores at zero, the program terminates in every fair execution, with
    every device's arrays at the final contents and every semaphore at zero again. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0) (hshare := share_eq m ρ)
    (hdistinct := winFacts0.arr_inj)
    (O₀ := fun d => owe (dues d)) (howed₀ := fun _ => rfl) (howedN := fun _ => rfl)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array's contents at the end. -/
theorem final_out (c : Dev nD) : finalA m ρ c (5 : Fin 6) = outc m :=
  (dats m ρ 0 c).arrAt_eq_of_after_last (5 : Fin 6) t0_0 (by decide +kernel) (outc m) (fun _ => rfl)

/-- The run, array by array. -/
theorem results : θ_run defs (onTc (τ := τ) (main (F := F))) ⟨m, fun _ => 0, ρ⟩ (fun r => (∀ c : Dev nD,
      r.2.mem ((c.tc : Thread nD τ).loc main_v1) = outc m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 5).trans (final_out m ρ c),
      (h.1 c 0).trans ((dats m ρ 0 c).arrAt_in 0 rfl _), (h.1 c 1).trans ((dats m ρ 0 c).arrAt_in 1 rfl _),
      (h.1 c 2).trans ((dats m ρ 0 c).arrAt_in 2 rfl _), (h.1 c 3).trans ((dats m ρ 0 c).arrAt_in 3 rfl _),
      (h.1 c 4).trans ((dats m ρ 0 c).arrAt_in 4 rfl _)⟩, h.2⟩) (run_main m ρ)

end Cert.KernelIdeal.Hand

end
-- ==== Proof.Value.Reference.lean ====
/-
The reference's result as named steps: the mask, the scores, the softmax and the two products.
-/
module

public import proofs.«01_k».proof.Proof.Gen.ReferenceIdeal.Run

@[expose] public section

set_option maxRecDepth 16384

noncomputable section

namespace Cert.ReferenceIdeal.Steps

open Cert.ReferenceIdeal Cert.ReferenceIdeal.Gen
open Idealize.ShloMosaic
open Idealize.ShloMosaic.TcCoe

variable {F : FTy → Type} [FloatOps F]

/-- The block of 64 rows that a key belongs to: a division rounded down. -/
def keyBlock : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))
/-- The block of 64 rows that a query belongs to. -/
def queryBlock : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
/-- The divisor of the two remainders. -/
def four : IVec S_ 32 :=
  select (cmpi .eq (id (constantI S_ 32 4#32)) (constantI S_ 32 0#32)) (constantI S_ 32 1#32) (id (constantI S_ 32 4#32))
/-- The remainder of a key's block by 4, with the sign of the block. -/
def keyRem : IVec S1x1024 32 :=
  Host.remsi (broadcastInDim S1x1024 ![1] bcast_S1024_S1x1024_1 keyBlock) (broadcastInDim S1x1024 ![] bcast_S_S1x1024 four)
/-- The remainder of a query's block by 4, with the sign of the block. -/
def queryRem : IVec S256x1 32 :=
  Host.remsi (broadcastInDim S256x1 ![0] bcast_S256_S256x1_0 queryBlock) (broadcastInDim S256x1 ![] bcast_S_S256x1 four)
/-- A key's block modulo 4. -/
def keyMod : IVec S1x1024 32 :=
  select (andi (cmpi .ne (cmpi .slt keyRem (broadcastInDim S1x1024 ![] bcast_S_S1x1024 (constantI S_ 32 0#32))) (broadcastInDim S1x1024 ![] bcast_S_S1x1024 (cmpi .slt four (constantI S_ 32 0#32)))) (cmpi .ne keyRem (broadcastInDim S1x1024 ![] bcast_S_S1x1024 (constantI S_ 32 0#32)))) (addi keyRem (broadcastInDim S1x1024 ![] bcast_S_S1x1024 four)) keyRem
/-- A query's block modulo 4. -/
def queryMod : IVec S256x1 32 :=
  select (andi (cmpi .ne (cmpi .slt queryRem (broadcastInDim S256x1 ![] bcast_S_S256x1 (constantI S_ 32 0#32))) (broadcastInDim S256x1 ![] bcast_S_S256x1 (cmpi .slt four (constantI S_ 32 0#32)))) (cmpi .ne queryRem (broadcastInDim S256x1 ![] bcast_S_S256x1 (constantI S_ 32 0#32)))) (addi queryRem (broadcastInDim S256x1 ![] bcast_S_S256x1 four)) queryRem
/-- The mask: the blocks are equal, or equal modulo 4. -/
def on : IVec S256x1024 1 :=
  ori (cmpi .eq (broadcastInDim S256x1024 ![0, 1] bcast_S256x1_S256x1024_0_1 (broadcastInDim S256x1 ![0] bcast_S256_S256x1_0 queryBlock)) (broadcastInDim S256x1024 ![0, 1] bcast_S1x1024_S256x1024_0_1 (broadcastInDim S1x1024 ![1] bcast_S1024_S1x1024_1 keyBlock))) (cmpi .eq (broadcastInDim S256x1024 ![0, 1] bcast_S1x1024_S256x1024_0_1 keyMod) (broadcastInDim S256x1024 ![0, 1] bcast_S256x1_S256x1024_0_1 queryMod))
/-- Whether a query attends to anything. -/
def keep : IVec S256 1 :=
  Host.reduce IntOp.ori on (constantI S_ 1 0#1) reducesTo_S256x1024_S256_d1 h_S_
/-- The queries of all heads. -/
def queries (X : Vec F S2x256x512 .f32) (Wq : Vec F S512x1024 .f32) : FVec F S2x256x1024 .f32 :=
  Host.dotGeneral dot_S2x256x512_S512x1024_S2x256x1024_2_0_01_1_n_n none X Wq
/-- The products of queries and keys, by batch element and head. -/
def dots (X : Vec F S2x256x512 .f32) (Wq : Vec F S512x1024 .f32) (K : Vec F S2x1024x16x64 .f32) : FVec F S2x16x256x1024 .f32 :=
  Host.dotGeneral dot_S2x256x16x64_S2x1024x16x64_S2x16x256x1024_3_3_1_1_02_02 none (shapeCast _ (queries X Wq) shapeCasts_S2x256x1024_S2x256x16x64) K
/-- The scores: scaled where the mask is on, minus 10⁹ elsewhere. -/
def scores (X : Vec F S2x256x512 .f32) (Wq : Vec F S512x1024 .f32) (K : Vec F S2x1024x16x64 .f32) : FVec F S2x16x256x1024 .f32 :=
  select (broadcastInDim S2x16x256x1024 ![0, 1, 2, 3] bcast_S1x1x256x1024_S2x16x256x1024_0_1_2_3 (broadcastInDim S1x1x256x1024 ![2, 3] bcast_S256x1024_S1x1x256x1024_2_3 on)) (mulf (dots X Wq K) (broadcastInDim S2x16x256x1024 ![] bcast_S_S2x16x256x1024 (constant S_ .f32 0x3E000000#32))) (broadcastInDim S2x16x256x1024 ![] bcast_S_S2x16x256x1024 (id (constant S_ .f32 0xCE6E6B28#32)))
/-- Each query's largest score. -/
def largest (X : Vec F S2x256x512 .f32) (Wq : Vec F S512x1024 .f32) (K : Vec F S2x1024x16x64 .f32) : FVec F S2x16x256 .f32 :=
  Host.reduce FloatOps.maximumf (scores X Wq K) (constant S_ .f32 0xFF800000#32) reducesTo_S2x16x256x1024_S2x16x256_d3 h_S_
/-- The exponentials of the scores less the largest. -/
def weights (X : Vec F S2x256x512 .f32) (Wq : Vec F S512x1024 .f32) (K : Vec F S2x1024x16x64 .f32) : FVec F S2x16x256x1024 .f32 :=
  Host.exp (subf (scores X Wq K) (broadcastInDim S2x16x256x1024 ![0, 1, 2, 3] bcast_S2x16x256x1_S2x16x256x1024_0_1_2_3 (broadcastInDim S2x16x256x1 ![0, 1, 2] bcast_S2x16x256_S2x16x256x1_0_1_2 (largest X Wq K))))
/-- The sum of each query's weights. -/
def total (X : Vec F S2x256x512 .f32) (Wq : Vec F S512x1024 .f32) (K : Vec F S2x1024x16x64 .f32) : FVec F S2x16x256 .f32 :=
  Host.reduceAdd (weights X Wq K) (constant S_ .f32 0x00000000#32) reducesTo_S2x16x256x1024_S2x16x256_d3 h_S_
/-- What the weights are divided by. -/
def divisor (X : Vec F S2x256x512 .f32) (Wq : Vec F S512x1024 .f32) (K : Vec F S2x1024x16x64 .f32) : FVec F S2x16x256x1 .f32 :=
  select (broadcastInDim S2x16x256x1 ![0, 1, 2, 3] bcast_S1x1x256x1_S2x16x256x1_0_1_2_3 (broadcastInDim S1x1x256x1 ![2] bcast_S256_S1x1x256x1_2 keep)) (broadcastInDim S2x16x256x1 ![0, 1, 2] bcast_S2x16x256_S2x16x256x1_0_1_2 (total X Wq K)) (broadcastInDim S2x16x256x1 ![] bcast_S_S2x16x256x1 (id (constant S_ .f32 0x3F800000#32)))
/-- The weights divided by their sum. -/
def shares (X : Vec F S2x256x512 .f32) (Wq : Vec F S512x1024 .f32) (K : Vec F S2x1024x16x64 .f32) : FVec F S2x16x256x1024 .f32 :=
  select (broadcastInDim S2x16x256x1024 ![0, 1, 2, 3] bcast_S1x1x256x1_S2x16x256x1024_0_1_2_3 (broadcastInDim S1x1x256x1 ![2] bcast_S256_S1x1x256x1_2 keep)) (Host.divf (weights X Wq K) (broadcastInDim S2x16x256x1024 ![0, 1, 2, 3] bcast_S2x16x256x1_S2x16x256x1024_0_1_2_3 (divisor X Wq K))) (broadcastInDim S2x16x256x1024 ![] bcast_S_S2x16x256x1024 (id (constant S_ .f32 0x00000000#32)))
/-- The weighted sums of V. -/
def context (X : Vec F S2x256x512 .f32) (Wq : Vec F S512x1024 .f32) (K : Vec F S2x1024x16x64 .f32) (V : Vec F S2x1024x16x64 .f32) : FVec F S2x16x64x256 .f32 :=
  Host.dotGeneral dot_S2x1024x16x64_S2x16x256x1024_S2x16x64x256_1_3_3_2_02_01 none V (shares X Wq K)
/-- The result: the heads side by side, times Wo. -/
def output (X : Vec F S2x256x512 .f32) (Wq : Vec F S512x1024 .f32) (K : Vec F S2x1024x16x64 .f32) (V : Vec F S2x1024x16x64 .f32) (Wo : Vec F S1024x512 .f32) : FVec F S2x256x512 .f32 :=
  Host.dotGeneral dot_S2x256x1024_S1024x512_S2x256x512_2_0_01_1_n_n none (shapeCast _ (transpose S2x256x16x64 [0, 3, 1, 2] (context X Wq K V) transposes_S2x16x64x256_S2x256x16x64_0_3_1_2) shapeCasts_S2x256x16x64_S2x256x1024) Wo

/-- The reference's result buffer is `output` of its arguments. -/
theorem result_eq (m : (ℓ : Loc nD τ sig) → Buf (Elt F) ℓ) (c : Dev nD) :
    Value.res_main_v39 m c = output (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Steps

end
-- ==== Proof.Value.Heads.lean ====
/-
One head's attention as the kernel computes it, and a device's share of the result as a product of its heads' outputs.

The printed program computes the eight heads of a device (four for each batch element) by operations that are grouped
differently into named values. Here each of them is shown to be one function, `headOf`, of the head's queries and the
landed rows of K and V.
-/
module

public import proofs.«01_k».proof.Proof.KernelIdeal.Values

@[expose] public section

set_option maxRecDepth 16384

noncomputable section

namespace Cert.KernelIdeal.Value

open Cert.KernelIdeal Cert.KernelIdeal.Gen Cert.KernelIdeal.Hand
open Idealize.ShloMosaic
open Idealize.ShloMosaic.TcCoe

variable {F : FTy → Type} [FloatOps F]

/-- One head's output: queries `q`, and the landed rows of K and V, a quarter of the sequence at a time. -/
def headOf (q : FVec F S256x64 .bf16) (k0 k1 k2 k3 v0 v1 v2 v3 : Vec F S1x1x1x256x64 .bf16) : FVec F S256x64 .f32 :=
  k0_pay28 mask (k0_pay26 v0 v1 v2 v3) (k0_pay27 q k0 k1 k2 k3)

/-- Head `h` of batch element `b`, its rows read from the landing buffers. -/
def headAt (q : FVec F S256x64 .bf16) (KR VR : TV F) (h b : ℕ) (hb : ∀ s : Fin 4, ∀ a, (![s.val, h, b, 0, 0] : Fin 5 → ℕ) a + S1x1x1x256x64.size a ≤ S4x4x2x256x64.size a) :
    FVec F S256x64 .f32 :=
  headOf q (kAt KR 0 h b (hb 0)) (kAt KR 1 h b (hb 1)) (kAt KR 2 h b (hb 2)) (kAt KR 3 h b (hb 3))
    (kAt VR 0 h b (hb 0)) (kAt VR 1 h b (hb 1)) (kAt VR 2 h b (hb 2)) (kAt VR 3 h b (hb 3))

/-- Four heads' outputs side by side. -/
def sideBySide (o0 o1 o2 o3 : FVec F S256x64 .f32) : FVec F S256x256 .f32 :=
  concatenate S256x256 1 [⟨S256x64, o0⟩, ⟨S256x64, o1⟩, ⟨S256x64, o2⟩, ⟨S256x64, o3⟩] concatenates_S256x64_S256x64_S256x64_S256x64_S256x256_d1

/-- Four heads' outputs side by side, times the device's rows of Wo. -/
def shareOf (o0 o1 o2 o3 : FVec F S256x64 .f32) (wo : Vec F S256x512 .f32) : FVec F S256x512 .f32 :=
  matmul dot_S256x256_S256x512_S256x512_1_0_0_1_n_n none (sideBySide o0 o1 o2 o3)
    (shapeCast S256x512 wo shapeCasts_S256x512_S256x512) (constant S256x512 .f32 0x00000000#32)

/-- The queries of one head: its 64 columns. -/
def queries (q : FVec F S256x256 .bf16) : Fin 4 → FVec F S256x64 .bf16
  | 0 => k0_pay16 q
  | 1 => k0_pay20 q
  | 2 => k0_pay25 q
  | 3 => k0_pay29 q

/-- A batch element's share, all four heads taken from its queries `q`. -/
def share (q : FVec F S256x256 .bf16) (KR VR : TV F) (wo : Vec F S256x512 .f32) (b : ℕ)
    (hb : ∀ h s : Fin 4, ∀ a, (![s.val, h.val, b, 0, 0] : Fin 5 → ℕ) a + S1x1x1x256x64.size a ≤ S4x4x2x256x64.size a) : FVec F S256x512 .f32 :=
  shareOf (headAt (queries q 0) KR VR 0 b (hb 0)) (headAt (queries q 1) KR VR 1 b (hb 1)) (headAt (queries q 2) KR VR 2 b (hb 2))
    (headAt (queries q 3) KR VR 3 b (hb 3)) wo

variable (q0 q1 : FVec F S256x256 .bf16) (KR VR : TV F) (wo : Vec F S256x512 .f32)

/-! The heads one after the other. -/

theorem o289_eq : o289 q0 KR VR = headAt (queries q0 0) KR VR 0 0 (by decide) := rfl
theorem o324_eq : o324 q0 KR VR = headAt (queries q0 1) KR VR 1 0 (by decide) := rfl
theorem o359_eq : o359 q0 KR VR = headAt (queries q0 2) KR VR 2 0 (by decide) := rfl
theorem o451_eq : o451 q1 KR VR = headAt (queries q1 0) KR VR 0 1 (by decide) := rfl
theorem o486_eq : o486 q1 KR VR = headAt (queries q1 1) KR VR 1 1 (by decide) := rfl
theorem o521_eq : o521 q1 KR VR = headAt (queries q1 2) KR VR 2 1 (by decide) := rfl

/-- Batch element 0's share is the product of its four heads. -/
theorem o396_eq : o396 q0 KR VR wo = share q0 KR VR wo 0 (by decide) := by
  unfold o396
  rw [o289_eq, o324_eq, o359_eq]
  rfl

/-- Batch element 1's share is the product of its four heads. -/
theorem o558_eq : o558 q1 KR VR wo = share q1 KR VR wo 1 (by decide) := by
  unfold o558
  rw [o451_eq, o486_eq, o521_eq]
  rfl

/-- Row block `r` of a share, as it is stored for the exchange. -/
def rowBlock (P : FVec F S256x512 .f32) (r : ℕ) (hr : S256x512.Slices ![r, 0] S64x512) : FVec F S1x1x64x512 .bf16 :=
  shapeCast S1x1x64x512 (truncf .bf16 (extractStridedSlice S64x512 ![r, 0] P hr) bitsLt_bf16_f32) shapeCasts_S64x512_S1x1x64x512

theorem chunk00 : chunk q0 q1 KR VR wo 0 0 = rowBlock (o396 q0 KR VR wo) 0 slices_S256x512_o0_0_S64x512 := rfl
theorem chunk10 : chunk q0 q1 KR VR wo 1 0 = rowBlock (o396 q0 KR VR wo) 64 slices_S256x512_o64_0_S64x512 := rfl
theorem chunk20 : chunk q0 q1 KR VR wo 2 0 = rowBlock (o396 q0 KR VR wo) 128 slices_S256x512_o128_0_S64x512 := rfl
theorem chunk30 : chunk q0 q1 KR VR wo 3 0 = rowBlock (o396 q0 KR VR wo) 192 slices_S256x512_o192_0_S64x512 := rfl
theorem chunk01 : chunk q0 q1 KR VR wo 0 1 = rowBlock (o558 q1 KR VR wo) 0 slices_S256x512_o0_0_S64x512 := rfl
theorem chunk11 : chunk q0 q1 KR VR wo 1 1 = rowBlock (o558 q1 KR VR wo) 64 slices_S256x512_o64_0_S64x512 := rfl
theorem chunk21 : chunk q0 q1 KR VR wo 2 1 = rowBlock (o558 q1 KR VR wo) 128 slices_S256x512_o128_0_S64x512 := rfl
theorem chunk31 : chunk q0 q1 KR VR wo 3 1 = rowBlock (o558 q1 KR VR wo) 192 slices_S256x512_o192_0_S64x512 := rfl

end Cert.KernelIdeal.Value

end
-- ==== Proof.Value.Attend.lean ====
/-
Masked softmax attention of one query row over the reals, and the places in the sequence.
-/
module

public import Idealize.ShloMosaic.Lib.Pointwise

@[expose] public section

noncomputable section

namespace Cert.Attend

open Idealize.ShloMosaic

/-- The device that holds a place in the sequence, and the place among that device's rows. -/
def owner (j : Fin 1024) : Fin 4 := ⟨j.val / 256, by omega⟩
def row (j : Fin 1024) : Fin 256 := ⟨j.val % 256, by omega⟩

/-- The score of a query with the key at place `j`: the scaled product where the mask is on, minus 10⁹ elsewhere. -/
def score (on : Fin 1024 → BitVec 1) (q : Fin 64 → EReal) (k : Fin 1024 → Fin 64 → EReal) (j : Fin 1024) : EReal :=
  Scalar.select (on j) ((∑ e : Fin 64, q e * k j e) * Ideal.ofBits .f32 0x3E000000#32) (Ideal.ofBits .f32 0xCE6E6B28#32)

/-- The weight of place `j` before it is divided by the sum: the exponential of the score less the largest score. -/
def weight (on : Fin 1024 → BitVec 1) (q : Fin 64 → EReal) (k : Fin 1024 → Fin 64 → EReal) (j : Fin 1024) : EReal :=
  Ideal.exp (score on q k j - Finset.univ.fold max (Ideal.ofBits .f32 0xFF800000#32) (score on q k))

/-- Column `d` of the attention's output. -/
def attend (on : Fin 1024 → BitVec 1) (q : Fin 64 → EReal) (k v : Fin 1024 → Fin 64 → EReal) (d : Fin 64) : EReal :=
  ∑ j : Fin 1024, Ideal.div (weight on q k j) (∑ i : Fin 1024, weight on q k i) * v j d

end Cert.Attend

end
-- ==== Proof.Value.Head.lean ====
/-
One head over the reals, element by element: it is masked softmax attention over the whole sequence.
-/
module

public import proofs.«01_k».proof.Proof.Value.Heads
public import proofs.«01_k».proof.Proof.Value.Attend

@[expose] public section

set_option maxRecDepth 16384

noncomputable section

namespace Cert.KernelIdeal.Value

open Cert.KernelIdeal Cert.KernelIdeal.Gen Cert.KernelIdeal.Hand
open Idealize.ShloMosaic Cert.Attend
open Idealize.ShloMosaic.TcCoe

/-- A loaded row block, element by element. -/
theorem kAt_apply (B : TV Ideal) (s : Fin 4) (h : Fin 4) (b : Fin 2) (hb : ∀ a, (![s.val, h.val, b.val, 0, 0] : Fin 5 → ℕ) a + S1x1x1x256x64.size a ≤ S4x4x2x256x64.size a)
    (r : Fin 256) (d : Fin 64) : kAt B s h b hb (ix5 0 0 0 r d) = B (ix5 s h b r d) := by
  unfold kAt
  rw [View.readAt_apply]
  refine congrArg B (funext fun a => Fin.ext ?_)
  fin_cases a
  · exact (by omega : s.val + 1 * 0 = s.val)
  · exact (by omega : h.val + 1 * 0 = h.val)
  · exact (by omega : b.val + 1 * 0 = b.val)
  · exact (by omega : 0 + 1 * r.val = r.val)
  · exact (by omega : 0 + 1 * d.val = d.val)

/-- A case distinction on the quarter of the sequence is a choice by the owner. -/
theorem ladder {α : Type} (j : Fin 1024) (f : Fin 4 → Fin 256 → α) :
    (if h : j.val < 256 then f 0 ⟨j.val, h⟩ else if h : j.val - 256 < 256 then f 1 ⟨j.val - 256, h⟩
      else if h : j.val - 256 - 256 < 256 then f 2 ⟨j.val - 256 - 256, h⟩ else f 3 ⟨j.val - 256 - 256 - 256, by omega⟩)
    = f (owner j) (row j) := by
  split_ifs with h1 h2 h3 <;> congr 1 <;> apply Fin.ext <;> simp only [owner, row, Fin.val_zero, Fin.val_one, Fin.val_two, Fin.val_ofNat] <;> omega

/-- Four row blocks end to end, at a place in the sequence. -/
theorem rows_apply (k : Fin 4 → Vec Ideal S1x1x1x256x64 .bf16) (j : Fin 1024) (e : Fin 64) :
    k0_pay26 (k 0) (k 1) (k 2) (k 3) (ix2 j e) = k (owner j) (ix5 0 0 0 (row j) e) := by
  pointwise [k0_pay26]
  exact ladder j fun s r => k s (ix5 0 0 0 r e)

theorem dots_apply (q : FVec Ideal S256x64 .bf16) (k : Fin 4 → Vec Ideal S1x1x1x256x64 .bf16) (r : Fin 256) (j : Fin 1024) :
    k0_pay27 q (k 0) (k 1) (k 2) (k 3) (ix2 r j) = ∑ e : Fin 64, q (ix2 r e) * k (owner j) (ix5 0 0 0 (row j) e) := by
  have e0 : k0_pay27 q (k 0) (k 1) (k 2) (k 3)
      = matmul dot_S256x64_S1024x64_S256x1024_1_1_0_0_n_n none q (k0_pay26 (k 0) (k 1) (k 2) (k 3)) (constant S256x1024 .f32 0x00000000#32) := rfl
  rw [e0]
  pointwise []
  simp only [rows_apply]

/-- One head's output is masked softmax attention. -/
theorem headOf_apply (q : FVec Ideal S256x64 .bf16) (k v : Fin 4 → Vec Ideal S1x1x1x256x64 .bf16) (r : Fin 256) (d : Fin 64) :
    headOf q (k 0) (k 1) (k 2) (k 3) (v 0) (v 1) (v 2) (v 3) (ix2 r d)
      = attend (fun j => mask (ix2 r j)) (fun e => q (ix2 r e)) (fun j e => k (owner j) (ix5 0 0 0 (row j) e))
          (fun j e => v (owner j) (ix5 0 0 0 (row j) e)) d := by
  unfold headOf
  pointwise [k0_pay28]
  simp only [rows_apply, dots_apply]
  rfl

/-- A head of the landing buffers is masked softmax attention over all four devices' rows. -/
theorem headAt_apply (q : FVec Ideal S256x64 .bf16) (KR VR : TV Ideal) (h : Fin 4) (b : Fin 2)
    (hb : ∀ s : Fin 4, ∀ a, (![s.val, h.val, b.val, 0, 0] : Fin 5 → ℕ) a + S1x1x1x256x64.size a ≤ S4x4x2x256x64.size a) (r : Fin 256) (d : Fin 64) :
    headAt q KR VR h b hb (ix2 r d)
      = attend (fun j => mask (ix2 r j)) (fun e => q (ix2 r e)) (fun j e => KR (ix5 (owner j) h b (row j) e))
          (fun j e => VR (ix5 (owner j) h b (row j) e)) d := by
  refine (headOf_apply q (fun s => kAt KR s h b (hb s)) (fun s => kAt VR s h b (hb s)) r d).trans ?_
  simp only [kAt_apply]

end Cert.KernelIdeal.Value

end
-- ==== Proof.Value.Result.lean ====
/-
A device's share of the result and the result itself over the reals, element by element.
-/
module

public import proofs.«01_k».proof.Proof.Value.Head

@[expose] public section

set_option maxRecDepth 16384

noncomputable section

namespace Cert.KernelIdeal.Value

open Cert.KernelIdeal Cert.KernelIdeal.Gen Cert.KernelIdeal.Hand
open Idealize.ShloMosaic Cert.Attend
open Idealize.ShloMosaic.TcCoe

/-- The head that a column of a device's 256 belongs to, and the column within the head. -/
def head (k : Fin 256) : Fin 4 := ⟨k.val / 64, by omega⟩
def lane (k : Fin 256) : Fin 64 := ⟨k.val % 64, by omega⟩
/-- Column `e` of head `h`. -/
def col (h : Fin 4) (e : Fin 64) : Fin 256 := ⟨64 * h.val + e.val, by omega⟩

/-- A case distinction on the quarter of the columns is a choice by the head. -/
theorem ladder_head {α : Type} (k : Fin 256) (f : Fin 4 → Fin 64 → α) :
    (if h : k.val < 64 then f 0 ⟨k.val, h⟩ else if h : k.val - 64 < 64 then f 1 ⟨k.val - 64, h⟩
      else if h : k.val - 64 - 64 < 64 then f 2 ⟨k.val - 64 - 64, h⟩ else f 3 ⟨k.val - 64 - 64 - 64, by omega⟩)
    = f (head k) (lane k) := by
  split_ifs with h1 h2 h3 <;> congr 1 <;> apply Fin.ext <;> simp only [head, lane, Fin.val_zero, Fin.val_one, Fin.val_two, Fin.val_ofNat] <;> omega

/-- Four heads side by side, at a column. -/
theorem sideBySide_apply (o : Fin 4 → FVec Ideal S256x64 .f32) (r k : Fin 256) :
    sideBySide (o 0) (o 1) (o 2) (o 3) (ix2 r k) = o (head k) (ix2 r (lane k)) := by
  pointwise [sideBySide]
  exact ladder_head k fun h d => o h (ix2 r d)

/-- A head's queries are its columns. -/
theorem queries_apply (q : FVec Ideal S256x256 .bf16) (h : Fin 4) (r : Fin 256) (e : Fin 64) :
    queries q h (ix2 r e) = q (ix2 r (col h e)) := by
  fin_cases h
  · show k0_pay16 q (ix2 r e) = _
    pointwise [k0_pay16]; simp [col]
  · show k0_pay20 q (ix2 r e) = _
    pointwise [k0_pay20]; simp [col]
  · show k0_pay25 q (ix2 r e) = _
    pointwise [k0_pay25]; simp [col]
  · show k0_pay29 q (ix2 r e) = _
    pointwise [k0_pay29]; simp [col]

/-- A product of four heads with the device's rows of Wo. -/
theorem shareOf_apply (o : Fin 4 → FVec Ideal S256x64 .f32) (wo : Vec Ideal S256x512 .f32) (r : Fin 256) (n : Fin 512) :
    shareOf (o 0) (o 1) (o 2) (o 3) wo (ix2 r n) = ∑ k : Fin 256, o (head k) (ix2 r (lane k)) * wo (ix2 k n) := by
  pointwise [shareOf]
  simp only [sideBySide_apply]

/-- A batch element's share of the result, element by element. -/
theorem share_apply (q : FVec Ideal S256x256 .bf16) (KR VR : TV Ideal) (wo : Vec Ideal S256x512 .f32) (b : Fin 2)
    (hb : ∀ h s : Fin 4, ∀ a, (![s.val, h.val, b.val, 0, 0] : Fin 5 → ℕ) a + S1x1x1x256x64.size a ≤ S4x4x2x256x64.size a) (r : Fin 256) (n : Fin 512) :
    share q KR VR wo b hb (ix2 r n)
      = ∑ k : Fin 256, attend (fun j => mask (ix2 r j)) (fun e => q (ix2 r (col (head k) e))) (fun j e => KR (ix5 (owner j) (head k) b (row j) e))
          (fun j e => VR (ix5 (owner j) (head k) b (row j) e)) (lane k) * wo (ix2 k n) := by
  refine (shareOf_apply (fun h => headAt (queries q h) KR VR h b (hb h)) wo r n).trans ?_
  simp only [headAt_apply, queries_apply]

/-- Row `l` of row block `r`. -/
def line (r : Fin 4) (l : Fin 64) : Fin 256 := ⟨64 * r.val + l.val, by omega⟩

/-- What is stored of a share is its rows, block by block. -/
theorem rowBlock_apply (P : FVec Ideal S256x512 .f32) (r : Fin 4) (hr : S256x512.Slices ![64 * r.val, 0] S64x512) (l : Fin 64) (n : Fin 512) :
    rowBlock P (64 * r.val) hr (ix4 0 0 l n) = P (ix2 (line r l) n) := by
  pointwise [rowBlock]
  simp [line]

/-- The exchanged blocks hold the two batch elements' shares. -/
theorem chunk_apply (q : Fin 2 → FVec Ideal S256x256 .bf16) (KR VR : TV Ideal) (wo : Vec Ideal S256x512 .f32) (r : Fin 4) (b : Fin 2) (l : Fin 64) (n : Fin 512) :
    chunk (q 0) (q 1) KR VR wo r b (ix4 0 0 l n)
      = share (q b) KR VR wo b (by revert b; decide) (ix2 (line r l) n) := by
  fin_cases b <;> fin_cases r
  · exact (congrFun (chunk00 ..) _).trans ((rowBlock_apply _ 0 _ l n).trans (congrFun (o396_eq ..) _))
  · exact (congrFun (chunk10 ..) _).trans ((rowBlock_apply _ 1 _ l n).trans (congrFun (o396_eq ..) _))
  · exact (congrFun (chunk20 ..) _).trans ((rowBlock_apply _ 2 _ l n).trans (congrFun (o396_eq ..) _))
  · exact (congrFun (chunk30 ..) _).trans ((rowBlock_apply _ 3 _ l n).trans (congrFun (o396_eq ..) _))
  · exact (congrFun (chunk01 ..) _).trans ((rowBlock_apply _ 0 _ l n).trans (congrFun (o558_eq ..) _))
  · exact (congrFun (chunk11 ..) _).trans ((rowBlock_apply _ 1 _ l n).trans (congrFun (o558_eq ..) _))
  · exact (congrFun (chunk21 ..) _).trans ((rowBlock_apply _ 2 _ l n).trans (congrFun (o558_eq ..) _))
  · exact (congrFun (chunk31 ..) _).trans ((rowBlock_apply _ 3 _ l n).trans (congrFun (o558_eq ..) _))

/-! ## Device by device -/

variable (m : (ℓ : Loc nD τ sig) → Buf (Elt Ideal) ℓ)

/-- A device's queries: its copy of `x` times its columns of Wq. -/
theorem queries_of (X : Vec Ideal S2x256x512 .f32) (W : Vec Ideal S512x256 .f32) (b : Fin 2)
    (hb : ∀ a, (![b.val, 0, 0] : Fin 3 → ℕ) a + S1x256x512.size a ≤ S2x256x512.size a) (i k : Fin 256) :
    k0_pay8 W (xAt X b hb) (ix2 i k) = ∑ t : Fin 512, X (ix3 b i t) * W (ix2 t k) := by
  have e (t : Fin 512) : xAt X b hb (ix3 0 i t) = X (ix3 b i t) := by
    unfold xAt
    rw [View.readAt_apply]
    refine congrArg X (funext fun a => Fin.ext ?_)
    fin_cases a
    · exact (by omega : b.val + 1 * 0 = b.val)
    · exact (by omega : 0 + 1 * i.val = i.val)
    · exact (by omega : 0 + 1 * t.val = t.val)
  pointwise [k0_pay8, k0_pay7]
  simp only [e]

/-- The queries of the two batch elements. -/
def qc (c : Dev nD) : Fin 2 → FVec Ideal S256x256 .bf16
  | 0 => q0c m c
  | 1 => q1c m c

theorem qc_apply (c : Dev nD) (b : Fin 2) (i k : Fin 256) :
    qc m c b (ix2 i k) = ∑ t : Fin 512, stg0 m c (ix3 b i t) * stg1 m c (ix2 t k) := by
  fin_cases b
  · exact queries_of (stg0 m c) (stg1 m c) 0 (by decide) i k
  · exact queries_of (stg0 m c) (stg1 m c) 1 (by decide) i k

/-- The global number of head `h` of device `c`. -/
def global (c h : Fin 4) : Fin 16 := ⟨4 * c.val + h.val, by omega⟩

/-- What has landed on a device of K. -/
theorem KRc_apply (c s h : Fin 4) (b : Fin 2) (r : Fin 256) (e : Fin 64) :
    KRc m c (ix5 s h b r e) = stg2 m s (ix4 b r (global c h) e) := by
  have e0 : KRc m c (ix5 s h b r e) = KSc m s (ix4 (global c h) b r e) := rfl
  rw [e0]
  pointwise [KSc, k0_pay3, k0_pay1]

/-- What has landed on a device of V. -/
theorem VRc_apply (c s h : Fin 4) (b : Fin 2) (r : Fin 256) (e : Fin 64) :
    VRc m c (ix5 s h b r e) = stg3 m s (ix4 b r (global c h) e) := by
  have e0 : VRc m c (ix5 s h b r e) = VSc m s (ix4 (global c h) b r e) := rfl
  rw [e0]
  pointwise [VSc, k0_pay4, k0_pay2]

/-- A row's row block, and its place in the block. -/
theorem line_of (i : Fin 256) : line ⟨i.val / 64, by omega⟩ ⟨i.val % 64, by omega⟩ = i :=
  Fin.ext (by simp only [line]; omega)

/-- The result is the sum of the four devices' shares. -/
theorem outc_sum (b : Fin 2) (i : Fin 256) (n : Fin 512) :
    outc m (ix3 b i n) = ∑ c : Fin 4, share (qc m c b) (KRc m c) (VRc m c) (stg4 m c) b (by revert b; decide) (ix2 i n) := by
  have e1 : outc m (ix3 b i n) = AGc m (ix4 ⟨i.val / 64, by omega⟩ b ⟨i.val % 64, by omega⟩ n) := by
    pointwise [outc, k0_pay63]
  have e2 (r : Fin 4) (l : Fin 64) : AGc m (ix4 r b l n) = k0_pay62 (RSc m r) (ix4 0 b l n) := rfl
  have e3 (r : Fin 4) (l : Fin 64) : k0_pay62 (RSc m r) (ix4 0 b l n) = ∑ c : Fin 4, RSc m r (ix4 c b l n) := by
    pointwise [k0_pay62]
  have e4 (r c : Fin 4) (l : Fin 64) : RSc m r (ix4 c b l n) = chunk (qc m c 0) (qc m c 1) (KRc m c) (VRc m c) (stg4 m c) r b (ix4 0 0 l n) := rfl
  rw [e1, e2, e3]
  refine Finset.sum_congr rfl fun c _ => ?_
  rw [e4, chunk_apply, line_of]

/-- The result, element by element. -/
theorem outc_apply (b : Fin 2) (i : Fin 256) (n : Fin 512) :
    outc m (ix3 b i n) = ∑ c : Fin 4, ∑ k : Fin 256,
      attend (fun j => mask (ix2 i j)) (fun e => ∑ t : Fin 512, stg0 m c (ix3 b i t) * stg1 m c (ix2 t (col (head k) e)))
        (fun j e => stg2 m (owner j) (ix4 b (row j) (global c (head k)) e)) (fun j e => stg3 m (owner j) (ix4 b (row j) (global c (head k)) e))
        (lane k) * stg4 m c (ix2 k n) := by
  rw [outc_sum]
  refine Finset.sum_congr rfl fun c _ => ?_
  rw [share_apply]
  simp only [qc_apply, KRc_apply, VRc_apply]

end Cert.KernelIdeal.Value

end
-- ==== Proof.Value.Inputs.lean ====
/-
The kernel's result in terms of the whole arrays, of which each device holds a block.
-/
module

public import proofs.«01_k».proof.Proof.Value.Result
public import Idealize.ShloMosaic.Lib.Layout

@[expose] public section

set_option maxRecDepth 16384

noncomputable section

namespace Cert.KernelIdeal.Value

open Cert.KernelIdeal Cert.KernelIdeal.Gen Cert.KernelIdeal.Hand
open Idealize.ShloMosaic Cert.Attend
open Idealize.ShloMosaic.TcCoe

variable (m : (ℓ : Loc nD τ sig) → Buf (Elt Ideal) ℓ)

/-! The staged inputs are the device's arguments: every window is its whole array. -/

theorem stg0_eq (c : Dev nD) : stg0 m c = m ((c : Thread nD τ).loc main_arg0) := by
  funext i
  refine congrArg (m ((c : Thread nD τ).loc main_arg0)) (funext fun a => Fin.ext ?_)
  fin_cases a
  · exact (by omega : 0 * 2 + 1 * (i 0).val = (i 0).val)
  · exact (by omega : 0 * 256 + 1 * (i 1).val = (i 1).val)
  · exact (by omega : 0 * 512 + 1 * (i 2).val = (i 2).val)

theorem stg1_eq (c : Dev nD) : stg1 m c = m ((c : Thread nD τ).loc main_arg1) := by
  funext i
  refine congrArg (m ((c : Thread nD τ).loc main_arg1)) (funext fun a => Fin.ext ?_)
  fin_cases a
  · exact (by omega : 0 * 512 + 1 * (i 0).val = (i 0).val)
  · exact (by omega : 0 * 256 + 1 * (i 1).val = (i 1).val)

theorem stg2_eq (c : Dev nD) : stg2 m c = m ((c : Thread nD τ).loc main_arg2) := by
  funext i
  refine congrArg (m ((c : Thread nD τ).loc main_arg2)) (funext fun a => Fin.ext ?_)
  fin_cases a
  · exact (by omega : 0 * 2 + 1 * (i 0).val = (i 0).val)
  · exact (by omega : 0 * 256 + 1 * (i 1).val = (i 1).val)
  · exact (by omega : 0 * 16 + 1 * (i 2).val = (i 2).val)
  · exact (by omega : 0 * 64 + 1 * (i 3).val = (i 3).val)

theorem stg3_eq (c : Dev nD) : stg3 m c = m ((c : Thread nD τ).loc main_arg3) := by
  funext i
  refine congrArg (m ((c : Thread nD τ).loc main_arg3)) (funext fun a => Fin.ext ?_)
  fin_cases a
  · exact (by omega : 0 * 2 + 1 * (i 0).val = (i 0).val)
  · exact (by omega : 0 * 256 + 1 * (i 1).val = (i 1).val)
  · exact (by omega : 0 * 16 + 1 * (i 2).val = (i 2).val)
  · exact (by omega : 0 * 64 + 1 * (i 3).val = (i 3).val)

theorem stg4_eq (c : Dev nD) : stg4 m c = m ((c : Thread nD τ).loc main_arg4) := by
  funext i
  refine congrArg (m ((c : Thread nD τ).loc main_arg4)) (funext fun a => Fin.ext ?_)
  fin_cases a
  · exact (by omega : 0 * 256 + 1 * (i 0).val = (i 0).val)
  · exact (by omega : 0 * 512 + 1 * (i 1).val = (i 1).val)

/-! ## Blocks of the whole arrays -/

/-- Place `k` of device `c`'s 256, counted over all devices. -/
def wide (c : Fin 4) (k : Fin 256) : Fin 1024 := ⟨256 * c.val + k.val, by omega⟩
/-- The head of one of the 1024 columns, the column within the head, and the column of a head. -/
def ghead (k : Fin 1024) : Fin 16 := ⟨k.val / 64, by omega⟩
def glane (k : Fin 1024) : Fin 64 := ⟨k.val % 64, by omega⟩
def gcol (h : Fin 16) (e : Fin 64) : Fin 1024 := ⟨h.val * 64 + e.val, by omega⟩

theorem block_columns (B : (⟨2, ![512, 1024]⟩ : Shape).Idx → EReal) (c : Fin 4) (t : Fin 512) (k : Fin 256) :
    Layout.block ⟨2, ![512, 256]⟩ ⟨2, ![512, 1024]⟩ 1 4 c B (by decide) (ix2 t k) = B (ix2 t (wide c k)) := by
  refine congrArg B (funext fun a => Fin.ext ?_)
  fin_cases a
  · rfl
  · exact (by omega : c.val * 256 + k.val = 256 * c.val + k.val)

theorem block_rows (B : (⟨2, ![1024, 512]⟩ : Shape).Idx → EReal) (c : Fin 4) (k : Fin 256) (n : Fin 512) :
    Layout.block ⟨2, ![256, 512]⟩ ⟨2, ![1024, 512]⟩ 0 4 c B (by decide) (ix2 k n) = B (ix2 (wide c k) n) := by
  refine congrArg B (funext fun a => Fin.ext ?_)
  fin_cases a
  · exact (by omega : c.val * 256 + k.val = 256 * c.val + k.val)
  · rfl

theorem block_places (B : (⟨4, ![2, 1024, 16, 64]⟩ : Shape).Idx → EReal) (c : Fin 4) (b : Fin 2) (r : Fin 256) (h : Fin 16) (e : Fin 64) :
    Layout.block ⟨4, ![2, 256, 16, 64]⟩ ⟨4, ![2, 1024, 16, 64]⟩ 1 4 c B (by decide) (ix4 b r h e) = B (ix4 b (wide c r) h e) := by
  refine congrArg B (funext fun a => Fin.ext ?_)
  fin_cases a
  · rfl
  · exact (by omega : c.val * 256 + r.val = 256 * c.val + r.val)
  · rfl
  · rfl

theorem wide_owner (j : Fin 1024) : wide (owner j) (row j) = j := Fin.ext (by simp only [wide, owner, row]; omega)
theorem wide_col (c : Fin 4) (h : Fin 4) (e : Fin 64) : wide c (col h e) = gcol (global c h) e :=
  Fin.ext (by simp only [wide, col, gcol, global]; omega)
theorem ghead_wide (c : Fin 4) (k : Fin 256) : ghead (wide c k) = global c (head k) :=
  Fin.ext (by simp only [ghead, wide, global, head]; omega)
theorem glane_wide (c : Fin 4) (k : Fin 256) : glane (wide c k) = lane k :=
  Fin.ext (by simp only [glane, wide, lane]; omega)

/-- A sum over 1024 places is a sum over the devices of sums over their 256. -/
theorem sum_wide (f : Fin 1024 → EReal) : ∑ k : Fin 1024, f k = ∑ c : Fin 4, ∑ k : Fin 256, f (wide c k) := by
  rw [← Fintype.sum_prod_type' (f := fun c k => f (wide c k))]
  refine (Equiv.sum_comp (finProdFinEquiv : Fin 4 × Fin 256 ≃ Fin 1024) f).symm.trans (Finset.sum_congr rfl fun p _ => congrArg f (Fin.ext ?_))
  exact (by omega : p.2.val + 256 * p.1.val = 256 * p.1.val + p.2.val)

/-- Attention of every head, side by side over the 1024 columns, times Wo: what both programs compute, for a mask `on`. -/
def attention (on : Fin 256 → Fin 1024 → BitVec 1) (X : (⟨3, ![2, 256, 512]⟩ : Shape).Idx → EReal) (Wq : (⟨2, ![512, 1024]⟩ : Shape).Idx → EReal)
    (K V : (⟨4, ![2, 1024, 16, 64]⟩ : Shape).Idx → EReal) (Wo : (⟨2, ![1024, 512]⟩ : Shape).Idx → EReal) (b : Fin 2) (i : Fin 256) (n : Fin 512) : EReal :=
  ∑ k : Fin 1024, attend (on i) (fun e => ∑ t : Fin 512, X (ix3 b i t) * Wq (ix2 t (gcol (ghead k) e)))
    (fun j e => K (ix4 b j (ghead k) e)) (fun j e => V (ix4 b j (ghead k) e)) (glane k) * Wo (ix2 k n)

/-- The kernel's result, where each device holds its block of the whole arrays. -/
theorem outc_eq_attention (X : (⟨3, ![2, 256, 512]⟩ : Shape).Idx → EReal) (Wq : (⟨2, ![512, 1024]⟩ : Shape).Idx → EReal)
    (K V : (⟨4, ![2, 1024, 16, 64]⟩ : Shape).Idx → EReal) (Wo : (⟨2, ![1024, 512]⟩ : Shape).Idx → EReal)
    (h0 : ∀ c : Dev nD, m ((c : Thread nD τ).loc main_arg0) = X)
    (h1 : ∀ c : Dev nD, m ((c : Thread nD τ).loc main_arg1) = Layout.block ⟨2, ![512, 256]⟩ ⟨2, ![512, 1024]⟩ 1 4 c Wq)
    (h2 : ∀ c : Dev nD, m ((c : Thread nD τ).loc main_arg2) = Layout.block ⟨4, ![2, 256, 16, 64]⟩ ⟨4, ![2, 1024, 16, 64]⟩ 1 4 c K)
    (h3 : ∀ c : Dev nD, m ((c : Thread nD τ).loc main_arg3) = Layout.block ⟨4, ![2, 256, 16, 64]⟩ ⟨4, ![2, 1024, 16, 64]⟩ 1 4 c V)
    (h4 : ∀ c : Dev nD, m ((c : Thread nD τ).loc main_arg4) = Layout.block ⟨2, ![256, 512]⟩ ⟨2, ![1024, 512]⟩ 0 4 c Wo)
    (b : Fin 2) (i : Fin 256) (n : Fin 512) :
    outc m (ix3 b i n) = attention (fun i j => mask (ix2 i j)) X Wq K V Wo b i n := by
  have s0 (c : Dev nD) (t : Fin 512) : stg0 m c (ix3 b i t) = X (ix3 b i t) := by rw [stg0_eq, h0]
  have s1 (c : Dev nD) (t : Fin 512) (k : Fin 256) : stg1 m c (ix2 t k) = Wq (ix2 t (wide c k)) := by
    rw [stg1_eq, h1]; exact block_columns Wq c t k
  have s2 (c : Dev nD) (r : Fin 256) (h : Fin 16) (e : Fin 64) : stg2 m c (ix4 b r h e) = K (ix4 b (wide c r) h e) := by
    rw [stg2_eq, h2]; exact block_places K c b r h e
  have s3 (c : Dev nD) (r : Fin 256) (h : Fin 16) (e : Fin 64) : stg3 m c (ix4 b r h e) = V (ix4 b (wide c r) h e) := by
    rw [stg3_eq, h3]; exact block_places V c b r h e
  have s4 (c : Dev nD) (k : Fin 256) : stg4 m c (ix2 k n) = Wo (ix2 (wide c k) n) := by
    rw [stg4_eq, h4]; exact block_rows Wo c k n
  rw [outc_apply]
  unfold attention
  rw [sum_wide]
  refine Finset.sum_congr rfl fun c _ => Finset.sum_congr rfl fun k _ => ?_
  rw [ghead_wide, glane_wide, s4]
  simp only [s0, s1, s2, s3, wide_owner, wide_col]

end Cert.KernelIdeal.Value

end
-- ==== Proof.Value.Mask.lean ====
/-
The kernel's mask, element by element: on where the query's and the key's blocks of 64 rows agree modulo 4.
-/
module

public import proofs.«01_k».proof.Proof.KernelIdeal.Values
public import Idealize.ShloMosaic.Lib.Pointwise

@[expose] public section

set_option maxRecDepth 16384

noncomputable section

namespace Cert.KernelIdeal.Value

open Cert.KernelIdeal Cert.KernelIdeal.Gen Cert.KernelIdeal.Hand
open Idealize.ShloMosaic

/-- Whether query row `i` attends to key place `j`. -/
def attends (i j : ℕ) : BitVec 1 := IntOp.cmpi .eq (BitVec.ofNat 32 (i / 64 % 4)) (BitVec.ofNat 32 (j / 64 % 4))

/-- The query's block modulo 4. -/
theorem mask162_apply (i : Fin 256) (j : Fin 1024) : mask162 (ix2 i j) = BitVec.ofNat 32 (i.val / 64 % 4) := by
  pointwise [mask162, k0_pay11, k0_pay10]
  revert i
  decide +kernel

/-- The key's block modulo 4. -/
theorem k0_pay12_apply (i : Fin 256) (j : Fin 1024) : k0_pay12 (ix2 i j) = BitVec.ofNat 32 (j.val / 64 % 4) := by
  pointwise [k0_pay12]
  revert j
  decide +kernel

/-- The kernel's mask. -/
theorem mask_apply (i : Fin 256) (j : Fin 1024) : mask (ix2 i j) = attends i j := by
  pointwise [mask, k0_pay14, k0_pay13]
  rw [mask162_apply, k0_pay12_apply]
  unfold attends
  refine congrArg (IntOp.cmpi .eq _) ?_
  clear i
  revert j
  decide +kernel

end Cert.KernelIdeal.Value

end
-- ==== Proof.Value.Reading.lean ====
/-
The reference's steps over the reals, element by element, up to its result: attention of every head times Wo.
-/
module

public import proofs.«01_k».proof.Proof.Value.Reference
public import proofs.«01_k».proof.Proof.Value.Inputs
public import proofs.«01_k».proof.Proof.Value.Mask

@[expose] public section

set_option maxRecDepth 16384

noncomputable section

namespace Cert.ReferenceIdeal.Steps

open Cert.ReferenceIdeal Cert.ReferenceIdeal.Gen
open Idealize.ShloMosaic Cert.Attend
open Cert.KernelIdeal.Value (attends attention ghead glane gcol)

/-! ## The mask -/

theorem keyBlock_apply (j : Fin 1024) : keyBlock (ix1 j) = BitVec.ofNat 32 (j.val / 64) := by
  pointwise [keyBlock]
  revert j
  decide +kernel

theorem queryBlock_apply (i : Fin 256) : queryBlock (ix1 i) = BitVec.ofNat 32 (i.val / 64) := by
  pointwise [queryBlock]
  revert i
  decide +kernel

theorem keyMod_apply (j : Fin 1024) : keyMod (ix2 0 j) = BitVec.ofNat 32 (j.val / 64 % 4) := by
  pointwise [keyMod, keyRem, four]
  simp only [keyBlock_apply]
  revert j
  decide +kernel

theorem queryMod_apply (i : Fin 256) : queryMod (ix2 i 0) = BitVec.ofNat 32 (i.val / 64 % 4) := by
  pointwise [queryMod, queryRem, four]
  simp only [queryBlock_apply]
  revert i
  decide +kernel

/-- Equal blocks are equal modulo 4, so the mask is the kernel's. -/
theorem on_apply (i : Fin 256) (j : Fin 1024) : on (ix2 i j) = attends i j := by
  pointwise [on]
  rw [queryBlock_apply, keyBlock_apply, keyMod_apply, queryMod_apply]
  unfold attends
  have h : ∀ a : Fin 4, ∀ b : Fin 16, IntOp.ori (IntOp.cmpi .eq (BitVec.ofNat 32 a.val) (BitVec.ofNat 32 b.val)) (IntOp.cmpi .eq (BitVec.ofNat 32 (b.val % 4)) (BitVec.ofNat 32 (a.val % 4)))
      = IntOp.cmpi .eq (BitVec.ofNat 32 (a.val % 4)) (BitVec.ofNat 32 (b.val % 4)) := by decide +kernel
  exact h ⟨i.val / 64, by omega⟩ ⟨j.val / 64, by omega⟩

/-- A disjunction that has a true member is true. -/
theorem fold_ori (f : Fin 1024 → BitVec 1) (j : Fin 1024) (hj : f j = 1#1) : Finset.univ.fold IntOp.ori 0#1 f = 1#1 := by
  have one : ∀ x : BitVec 1, IntOp.ori 1#1 x = 1#1 := by decide
  rw [← Finset.insert_erase (Finset.mem_univ j), Finset.fold_insert (Finset.notMem_erase _ _), hj]
  exact one _

/-- Every query attends to something: to the key at its own place. -/
theorem keep_apply (i : Fin 256) : keep (ix1 i) = 1#1 := by
  pointwise [keep]
  refine fold_ori _ ⟨i.val, by omega⟩ ?_
  rw [on_apply]
  unfold attends
  exact IntOp.cmpi_eq_self _

/-! ## The softmax -/

variable (X : FVec Ideal S2x256x512 .f32) (Wq : FVec Ideal S512x1024 .f32) (K V : FVec Ideal S2x1024x16x64 .f32) (Wo : FVec Ideal S1024x512 .f32)

/-- A query of a head. -/
abbrev query (b : Fin 2) (h : Fin 16) (i : Fin 256) (e : Fin 64) : EReal := ∑ t : Fin 512, X (ix3 b i t) * Wq (ix2 t (gcol h e))

theorem scores_apply (b : Fin 2) (h : Fin 16) (i : Fin 256) (j : Fin 1024) :
    scores (F := Ideal) X Wq K (ix4 b h i j) = score (fun j => attends i j) (query X Wq b h i) (fun j e => K (ix4 b j h e)) j := by
  pointwise [scores, dots, queries]
  rw [on_apply]
  rfl

theorem weights_apply (b : Fin 2) (h : Fin 16) (i : Fin 256) (j : Fin 1024) :
    weights (F := Ideal) X Wq K (ix4 b h i j) = weight (fun j => attends i j) (query X Wq b h i) (fun j e => K (ix4 b j h e)) j := by
  pointwise [weights, largest]
  simp only [scores_apply]
  rfl

theorem shares_apply (b : Fin 2) (h : Fin 16) (i : Fin 256) (j : Fin 1024) :
    shares (F := Ideal) X Wq K (ix4 b h i j) = Ideal.div (weight (fun j => attends i j) (query X Wq b h i) (fun j e => K (ix4 b j h e)) j)
      (∑ l : Fin 1024, weight (fun j => attends i j) (query X Wq b h i) (fun j e => K (ix4 b j h e)) l) := by
  pointwise [shares, divisor, total]
  simp only [weights_apply, keep_apply]
  rfl

theorem context_apply (b : Fin 2) (h : Fin 16) (i : Fin 256) (d : Fin 64) :
    context (F := Ideal) X Wq K V (ix4 b h d i) = attend (fun j => attends i j) (query X Wq b h i) (fun j e => K (ix4 b j h e)) (fun j e => V (ix4 b j h e)) d := by
  pointwise [context]
  simp only [shares_apply]
  exact Finset.sum_congr rfl fun j _ => mul_comm _ _

/-- The reference's result. -/
theorem output_apply (b : Fin 2) (i : Fin 256) (n : Fin 512) :
    output (F := Ideal) X Wq K V Wo (ix3 b i n) = attention (fun i j => attends i j) X Wq K V Wo b i n := by
  pointwise [output]
  simp only [context_apply]
  rfl

end Cert.ReferenceIdeal.Steps

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Reading
public import Idealize.ShloMosaic.Adequacy
public import Idealize.ShloMosaic.Init

@[expose] public section

noncomputable section

namespace Cert.Proof

open Idealize.ShloMosaic Idealize.SL.Sem Cert.Kernel

/-- The kernel runs on four devices, its arguments unchanged and its semaphores back at zero. -/
theorem frame_kernel : @Cert.quiescent_Kernel Cert.Kernel.Gen.facts := fun m g _ =>
  (θ_run _ _ _).mono (fun _ h => ⟨fun c => (h.1 c).2, h.2⟩) (Cert.Kernel.Hand.results m g)

/-- The same of the kernel over the reals. -/
theorem frame_ideal : @Cert.quiescent_KernelIdeal Cert.KernelIdeal.Gen.facts := fun m g _ =>
  (θ_run _ _ _).mono (fun _ h => ⟨fun c => (h.1 c).2, h.2⟩) (Cert.KernelIdeal.Hand.results m g)

/-- The same of the reference, which runs on one device. -/
theorem frame_reference : @Cert.quiescent_ReferenceIdeal Cert.ReferenceIdeal.Gen.facts := fun m g _ =>
  (θ_run Cert.ReferenceIdeal.defs _ _).mono (fun r h => ⟨fun c => (h c).2, Idealize.ShloMosaic.sem_eq_zero_of_no_sems (by decide) r.2⟩)
    (Cert.ReferenceIdeal.Value.run m g)

/-- Where each device holds its block of the reference's arguments, every device's result is the reference's. -/
theorem values : @Cert.algebraic_KernelIdeal_ReferenceIdeal Cert.KernelIdeal.Gen.facts Cert.ReferenceIdeal.Gen.facts := by
  intro m g m' g' _ h
  refine ⟨Cert.KernelIdeal.Hand.outc m, (θ_run _ _ _).mono (fun _ h => h.1) (Cert.KernelIdeal.Hand.results m g),
    (θ_run Cert.ReferenceIdeal.defs _ _).mono (fun r k => ⟨(k 0).1.trans ?_, (k 0).2⟩) (Cert.ReferenceIdeal.Value.run m' g')⟩
  rw [Cert.ReferenceIdeal.Steps.result_eq]
  funext x
  obtain ⟨b, i, n, rfl⟩ : ∃ (b : Fin 2) (i : Fin 256) (n : Fin 512), x = ix3 b i n := ⟨x 0, x 1, x 2, eq_ix3 x⟩
  refine (Cert.ReferenceIdeal.Steps.output_apply _ _ _ _ _ b i n).trans (Eq.trans ?_ (Cert.KernelIdeal.Value.outc_eq_attention m _ _ _ _ _
    (fun c => (h c).1) (fun c => (h c).2.1) (fun c => (h c).2.2.1) (fun c => (h c).2.2.2.1) (fun c => (h c).2.2.2.2) b i n).symm)
  simp only [Cert.KernelIdeal.Value.mask_apply]

theorem claim : Cert.Claim := ⟨Cert.Kernel.Gen.facts, Cert.KernelIdeal.Gen.facts, Cert.ReferenceIdeal.Gen.facts,
  frame_kernel, frame_ideal, frame_reference, trivial, values⟩

end Cert.Proof

end
